-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![256, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![256, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S256x256 : Shape := ⟨2, ![256, 256]⟩
abbrev S256x512 : Shape := ⟨2, ![256, 512]⟩
abbrev S512x256 : Shape := ⟨2, ![512, 256]⟩
abbrev S_ : Shape := ⟨0, ![]⟩

class Facts : Prop where
  bitsLt_bf16_f32 : FTy.bits .bf16 < FTy.bits .f32
  bcast_S_S256x256 : S_.BroadcastsInDim S256x256 (![] : Fin 0 → Fin S256x256.rank)
  reducesTo_S256x256_S_d0_1 : S256x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S512x256 .bf16) (main_arg5 : FVec F S512x256 .bf16) (main_v16 : IVec S_ 1) (main_v17 : FVec F S256x512 .f32) : IVec S_ 1 :=
  let main_v18 : FVec F S256x512 .f32 := Host.absf main_v17
  let main_cst_4 : FVec F S_ .f32 := constant S_ .f32 0x7F800000#32
  let main_v19 : FVec F S256x512 .f32 := broadcastInDim S256x512 ![] bcast_S_S256x512 main_cst_4
  let main_v20 : IVec S256x512 1 := cmpf .olt main_v18 main_v19
  let main_c_5 : IVec S_ 1 := constantI S_ 1 1#1
  let main_v21 : IVec S_ 1 := (fun x v => Host.reduce IntOp.andi x v reducesTo_S256x512_S_d0_1 h_S_) main_v20 main_c_5
  let main_v22 : IVec S_ 1 := andi main_v16 main_v21
  let main_v23 : FVec F S512x256 .f32 := (extf .f32 · bitsLt_bf16_f32) main_arg4
  let main_v24 : FVec F S512x256 .f32 := Host.absf main_v23
  let main_cst_6 : FVec F S_ .f32 := constant S_ .f32 0x7F800000#32
  let main_v25 : FVec F S512x256 .f32 := broadcastInDim S512x256 ![] bcast_S_S512x256 main_cst_6
  let main_v26 : IVec S512x256 1 := cmpf .olt main_v24 main_v25
  let main_c_7 : IVec S_ 1 := constantI S_ 1 1#1
  let main_v27 : IVec S_ 1 := (fun x v => Host.reduce IntOp.andi x v reducesTo_S512x256_S_d0_1 h_S_) main_v26 main_c_7
  let main_v28 : IVec S_ 1 := andi main_v22 main_v27
  let main_v29 : FVec F S512x256 .f32 := (extf .f32 · bitsLt_bf16_f32) main_arg5
  let main_v30 : FVec F S512x256 .f32 := Host.absf main_v29
  let main_cst_8 : FVec F S_ .f32 := constant S_ .f32 0x7F800000#32
  let main_v31 : FVec F S512x256 .f32 := broadcastInDim S512x256 ![] bcast_S_S512x256 main_cst_8
  let main_v32 : IVec S512x256 1 := cmpf .olt main_v30 main_v31
  let main_c_9 : IVec S_ 1 := constantI S_ 1 1#1
  let main_v33 : IVec S_ 1 := (fun x v => Host.reduce IntOp.andi x v reducesTo_S512x256_S_d0_1 h_S_) main_v32 main_c_9
  let main_v34 : IVec S_ 1 := andi main_v28 main_v33
  main_v34

def fn {F : FTy → Type} [FloatOps F] (main_arg0 : FVec F S256x256 .bf16) (main_arg1 : FVec F S256x512 .bf16) (main_arg2 : FVec F S256x512 .bf16) (main_arg3 : FVec F S256x512 .bf16) (main_arg4 : FVec F S512x256 .bf16) (main_arg5 : FVec F S512x256 .bf16) (main_arg6 : FVec F S512x256 .bf16) : IVec S_ 1 :=
  let main_v0 : FVec F S256x256 .f32 := (extf .f32 · bitsLt_bf16_f32) main_arg0
  let main_v1 : FVec F S256x256 .f32 := Host.absf main_v0
  let main_cst : FVec F S_ .f32 := constant S_ .f32 0x7F800000#32
  let main_v2 : FVec F S256x256 .f32 := broadcastInDim S256x256 ![] bcast_S_S256x256 main_cst
  let main_v3 : IVec S256x256 1 := cmpf .olt main_v1 main_v2
  let main_c : IVec S_ 1 := constantI S_ 1 1#1
  let main_v4 : IVec S_ 1 := (fun x v => Host.reduce IntOp.andi x v reducesTo_S256x256_S_d0_1 h_S_) main_v3 main_c
  let main_v5 : FVec F S256x512 .f32 := (extf .f32 · bitsLt_bf16_f32) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  let main_v11 : FVec F S256x512 .f32 := (extf .f32 · bitsLt_bf16_f32) main_arg2
  let main_v12 : FVec F S256x512 .f32 := Host.absf main_v11
  let main_cst_2 : FVec F S_ .f32 := constant S_ .f32 0x7F800000#32
  let main_v13 : FVec F S256x512 .f32 := broadcastInDim S256x512 ![] bcast_S_S256x512 main_cst_2
  let main_v14 : IVec S256x512 1 := cmpf .olt main_v12 main_v13
  let main_c_3 : IVec S_ 1 := constantI S_ 1 1#1
  let main_v15 : IVec S_ 1 := (fun x v => Host.reduce IntOp.andi x v reducesTo_S256x512_S_d0_1 h_S_) main_v14 main_c_3
  let main_v16 : IVec S_ 1 := andi main_v10 main_v15
  let main_v17 : FVec F S256x512 .f32 := (extf .f32 · bitsLt_bf16_f32) main_arg3
  fn_part1 (F := F) main_arg4 main_arg5 main_v16 main_v17
-- ==== Pre_finite_inputs_ReferenceIdeal.lean ====
abbrev S256x2048 : Shape := ⟨2, ![256, 2048]⟩
abbrev S2048x512 : Shape := ⟨2, ![2048, 512]⟩
abbrev S512x2048 : Shape := ⟨2, ![512, 2048]⟩
abbrev S_ : Shape := ⟨0, ![]⟩

class Facts : Prop where
  bitsLt_bf16_f32 : FTy.bits .bf16 < FTy.bits .f32
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_arg4 : FVec F S512x2048 .bf16) (main_arg5 : FVec F S512x2048 .bf16) (main_v16 : IVec S_ 1) (main_v17 : FVec F S2048x512 .f32) : IVec S_ 1 :=
  let main_v18 : FVec F S2048x512 .f32 := Host.absf main_v17
  let main_cst_4 : FVec F S_ .f32 := constant S_ .f32 0x7F800000#32
  let main_v19 : FVec F S2048x512 .f32 := broadcastInDim S2048x512 ![] bcast_S_S2048x512 main_cst_4
  let main_v20 : IVec S2048x512 1 := cmpf .olt main_v18 main_v19
  let main_c_5 : IVec S_ 1 := constantI S_ 1 1#1
  let main_v21 : IVec S_ 1 := (fun x v => Host.reduce IntOp.andi x v reducesTo_S2048x512_S_d0_1 h_S_) main_v20 main_c_5
  let main_v22 : IVec S_ 1 := andi main_v16 main_v21
  let main_v23 : FVec F S512x2048 .f32 := (extf .f32 · bitsLt_bf16_f32) main_arg4
  let main_v24 : FVec F S512x2048 .f32 := Host.absf main_v23
  let main_cst_6 : FVec F S_ .f32 := constant S_ .f32 0x7F800000#32
  let main_v25 : FVec F S512x2048 .f32 := broadcastInDim S512x2048 ![] bcast_S_S512x2048 main_cst_6
  let main_v26 : IVec S512x2048 1 := cmpf .olt main_v24 main_v25
  let main_c_7 : IVec S_ 1 := constantI S_ 1 1#1
  let main_v27 : IVec S_ 1 := (fun x v => Host.reduce IntOp.andi x v reducesTo_S512x2048_S_d0_1 h_S_) main_v26 main_c_7
  let main_v28 : IVec S_ 1 := andi main_v22 main_v27
  let main_v29 : FVec F S512x2048 .f32 := (extf .f32 · bitsLt_bf16_f32) main_arg5
  let main_v30 : FVec F S512x2048 .f32 := Host.absf main_v29
  let main_cst_8 : FVec F S_ .f32 := constant S_ .f32 0x7F800000#32
  let main_v31 : FVec F S512x2048 .f32 := broadcastInDim S512x2048 ![] bcast_S_S512x2048 main_cst_8
  let main_v32 : IVec S512x2048 1 := cmpf .olt main_v30 main_v31
  let main_c_9 : IVec S_ 1 := constantI S_ 1 1#1
  let main_v33 : IVec S_ 1 := (fun x v => Host.reduce IntOp.andi x v reducesTo_S512x2048_S_d0_1 h_S_) main_v32 main_c_9
  let main_v34 : IVec S_ 1 := andi main_v28 main_v33
  main_v34

def fn {F : FTy → Type} [FloatOps F] (main_arg0 : FVec F S256x2048 .bf16) (main_arg1 : FVec F S2048x512 .bf16) (main_arg2 : FVec F S2048x512 .bf16) (main_arg3 : FVec F S2048x512 .bf16) (main_arg4 : FVec F S512x2048 .bf16) (main_arg5 : FVec F S512x2048 .bf16) (main_arg6 : FVec F S512x2048 .bf16) : IVec S_ 1 :=
  let main_v0 : FVec F S256x2048 .f32 := (extf .f32 · bitsLt_bf16_f32) main_arg0
  let main_v1 : FVec F S256x2048 .f32 := Host.absf main_v0
  let main_cst : FVec F S_ .f32 := constant S_ .f32 0x7F800000#32
  let main_v2 : FVec F S256x2048 .f32 := broadcastInDim S256x2048 ![] bcast_S_S256x2048 main_cst
  let main_v3 : IVec S256x2048 1 := cmpf .olt main_v1 main_v2
  let main_c : IVec S_ 1 := constantI S_ 1 1#1
  let main_v4 : IVec S_ 1 := (fun x v => Host.reduce IntOp.andi x v reducesTo_S256x2048_S_d0_1 h_S_) main_v3 main_c
  let main_v5 : FVec F S2048x512 .f32 := (extf .f32 · bitsLt_bf16_f32) main_arg1
  let main_v6 : FVec F S2048x512 .f32 := Host.absf main_v5
  let main_cst_0 : FVec F S_ .f32 := constant S_ .f32 0x7F800000#32
  let main_v7 : FVec F S2048x512 .f32 := broadcastInDim S2048x512 ![] bcast_S_S2048x512 main_cst_0
  let main_v8 : IVec S2048x512 1 := cmpf .olt main_v6 main_v7
  let main_c_1 : IVec S_ 1 := constantI S_ 1 1#1
  let main_v9 : IVec S_ 1 := (fun x v => Host.reduce IntOp.andi x v reducesTo_S2048x512_S_d0_1 h_S_) main_v8 main_c_1
  let main_v10 : IVec S_ 1 := andi main_v4 main_v9
  let main_v11 : FVec F S2048x512 .f32 := (extf .f32 · bitsLt_bf16_f32) main_arg2
  let main_v12 : FVec F S2048x512 .f32 := Host.absf main_v11
  let main_cst_2 : FVec F S_ .f32 := constant S_ .f32 0x7F800000#32
  let main_v13 : FVec F S2048x512 .f32 := broadcastInDim S2048x512 ![] bcast_S_S2048x512 main_cst_2
  let main_v14 : IVec S2048x512 1 := cmpf .olt main_v12 main_v13
  let main_c_3 : IVec S_ 1 := constantI S_ 1 1#1
  let main_v15 : IVec S_ 1 := (fun x v => Host.reduce IntOp.andi x v reducesTo_S2048x512_S_d0_1 h_S_) main_v14 main_c_3
  let main_v16 : IVec S_ 1 := andi main_v10 main_v15
  let main_v17 : FVec F S2048x512 .f32 := (extf .f32 · bitsLt_bf16_f32) main_arg3
  fn_part1 (F := F) main_arg4 main_arg5 main_v16 main_v17
-- ==== Kernel.lean ====
abbrev S256x256 : Shape := ⟨2, ![256, 256]⟩
abbrev S256x512 : Shape := ⟨2, ![256, 512]⟩
abbrev S512x256 : Shape := ⟨2, ![512, 256]⟩
abbrev S32x512 : Shape := ⟨2, ![32, 512]⟩
abbrev S7x32x512 : Shape := ⟨3, ![7, 32, 512]⟩
abbrev S2x512x512 : Shape := ⟨3, ![2, 512, 512]⟩
abbrev S2x64x512 : Shape := ⟨3, ![2, 64, 512]⟩
abbrev S14x64x512 : Shape := ⟨3, ![14, 64, 512]⟩
abbrev S7 : Shape := ⟨1, ![7]⟩
abbrev S14 : Shape := ⟨1, ![14]⟩
abbrev S_ : Shape := ⟨0, ![]⟩
abbrev S1 : Shape := ⟨1, ![1]⟩
abbrev S1x32x512 : Shape := ⟨3, ![1, 32, 512]⟩
abbrev S512x512 : Shape := ⟨2, ![512, 512]⟩
abbrev S1x512x512 : Shape := ⟨3, ![1, 512, 512]⟩
abbrev S1x64x512 : Shape := ⟨3, ![1, 64, 512]⟩
abbrev S64x512 : Shape := ⟨2, ![64, 512]⟩

abbrev nBuf : Space → Nat
  | .hbm => 8
  | .vmem => 16
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S256x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S256x256, .f32⟩
  | .local _ .vmem, ⟨8, _⟩ => ⟨S256x512, .bf16⟩
  | .local _ .vmem, ⟨9, _⟩ => ⟨S32x512, .bf16⟩
  | .local _ .vmem, ⟨10, _⟩ => ⟨S256x512, .bf16⟩
  | .local _ .vmem, ⟨11, _⟩ => ⟨S7x32x512, .bf16⟩
  | .local _ .vmem, ⟨12, _⟩ => ⟨S2x512x512, .bf16⟩
  | .local _ .vmem, ⟨13, _⟩ => ⟨S2x64x512, .bf16⟩
  | .local _ .vmem, ⟨14, _⟩ => ⟨S14x64x512, .bf16⟩
  | .local _ .vmem, ⟨15, _⟩ => ⟨S2x512x512, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 2 → Bool
  | ⟨0, _⟩ => false
  | ⟨1, _⟩ => true
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 2 92 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.xori v2 c2_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v19 : BitVec 32 := Scalar.xori v2 c7_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 32 := Scalar.xori v2 c6_i32
  let c1_i32_19 : BitVec 32 := 1#32
  let v23 : BitVec 32 := Scalar.muli v22 c1_i32_19
  let v24 : BitVec 32 := Scalar.addi c0_i32_20 v23
  v24.toNat
def k0_off1 (d0 : Dev nD) (c1_i32_27 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v34 : BitVec 32 := Scalar.xori v2 c1_i32_27
  let c32_i32 : BitVec 32 := 32#32
  let v35 : BitVec 32 := Scalar.muli v34 c32_i32
  let c0_i32_35 : BitVec 32 := 0#32
  ![v35.toNat, 0]
def k0_dev8 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v34 : BitVec 32 := Scalar.xori v2 c1_i32_27
  let c1_i32_31 : BitVec 32 := 1#32
  let v36 : BitVec 32 := Scalar.muli v34 c1_i32_31
  let v37 : BitVec 32 := Scalar.addi c0_i32_32 v36
  v37.toNat
def k0_dev9 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_36 : BitVec 32 := 3#32
  let v45 : BitVec 32 := Scalar.xori v2 c3_i32_36
  let c1_i32_41 : BitVec 32 := 1#32
  let v47 : BitVec 32 := Scalar.muli v45 c1_i32_41
  let v48 : BitVec 32 := Scalar.addi c0_i32_42 v47
  v48.toNat
def k0_dev10 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_46 : BitVec 32 := 4#32
  let v56 : BitVec 32 := Scalar.xori v2 c4_i32_46
  let c1_i32_51 : BitVec 32 := 1#32
  let v58 : BitVec 32 := Scalar.muli v56 c1_i32_51
  let v59 : BitVec 32 := Scalar.addi c0_i32_52 v58
  v59.toNat
def k0_dev11 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_56 : BitVec 32 := 2#32
  let v67 : BitVec 32 := Scalar.xori v2 c2_i32_56
  let c1_i32_61 : BitVec 32 := 1#32
  let v69 : BitVec 32 := Scalar.muli v67 c1_i32_61
  let v70 : BitVec 32 := Scalar.addi c0_i32_62 v69
  v70.toNat
def k0_dev12 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_66 : BitVec 32 := 5#32
  let v78 : BitVec 32 := Scalar.xori v2 c5_i32_66
  let c1_i32_71 : BitVec 32 := 1#32
  let v80 : BitVec 32 := Scalar.muli v78 c1_i32_71
  let v81 : BitVec 32 := Scalar.addi c0_i32_72 v80
  v81.toNat
def k0_dev13 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_76 : BitVec 32 := 7#32
  let v89 : BitVec 32 := Scalar.xori v2 c7_i32_76
  let c1_i32_81 : BitVec 32 := 1#32
  let v91 : BitVec 32 := Scalar.muli v89 c1_i32_81
  let v92 : BitVec 32 := Scalar.addi c0_i32_82 v91
  v92.toNat
def k0_dev14 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_86 : BitVec 32 := 6#32
  let v100 : BitVec 32 := Scalar.xori v2 c6_i32_86
  let c1_i32_91 : BitVec 32 := 1#32
  let v102 : BitVec 32 := Scalar.muli v100 c1_i32_91
  let v103 : BitVec 32 := Scalar.addi c0_i32_92 v102
  v103.toNat
def k0_off2 (d0 : Dev nD) (c1_i32_111 : BitVec 32) : Fin 3 → Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v129 : BitVec 32 := Scalar.xori v2 c1_i32_111
  let c64_i32 : BitVec 32 := 64#32
  let v130 : BitVec 32 := Scalar.muli v129 c64_i32
  let c0_i32_120 : BitVec 32 := 0#32
  ![0, v130.toNat, 0]
def k0_dev15 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_111 : BitVec 32 := 1#32
  let v129 : BitVec 32 := Scalar.xori v2 c1_i32_111
  let c1_i32_116 : BitVec 32 := 1#32
  let v131 : BitVec 32 := Scalar.muli v129 c1_i32_116
  let v132 : BitVec 32 := Scalar.addi c0_i32_117 v131
  v132.toNat
def k0_dev16 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_121 : BitVec 32 := 3#32
  let v141 : BitVec 32 := Scalar.xori v2 c3_i32_121
  let c1_i32_127 : BitVec 32 := 1#32
  let v143 : BitVec 32 := Scalar.muli v141 c1_i32_127
  let v144 : BitVec 32 := Scalar.addi c0_i32_128 v143
  v144.toNat
def k0_dev17 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_132 : BitVec 32 := 4#32
  let v153 : BitVec 32 := Scalar.xori v2 c4_i32_132
  let c1_i32_138 : BitVec 32 := 1#32
  let v155 : BitVec 32 := Scalar.muli v153 c1_i32_138
  let v156 : BitVec 32 := Scalar.addi c0_i32_139 v155
  v156.toNat
def k0_dev18 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_143 : BitVec 32 := 2#32
  let v165 : BitVec 32 := Scalar.xori v2 c2_i32_143
  let c1_i32_149 : BitVec 32 := 1#32
  let v167 : BitVec 32 := Scalar.muli v165 c1_i32_149
  let v168 : BitVec 32 := Scalar.addi c0_i32_150 v167
  v168.toNat
def k0_dev19 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_154 : BitVec 32 := 5#32
  let v177 : BitVec 32 := Scalar.xori v2 c5_i32_154
  let c1_i32_160 : BitVec 32 := 1#32
  let v179 : BitVec 32 := Scalar.muli v177 c1_i32_160
  let v180 : BitVec 32 := Scalar.addi c0_i32_161 v179
  v180.toNat
def k0_dev20 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_165 : BitVec 32 := 7#32
  let v189 : BitVec 32 := Scalar.xori v2 c7_i32_165
  let c1_i32_171 : BitVec 32 := 1#32
  let v191 : BitVec 32 := Scalar.muli v189 c1_i32_171
  let v192 : BitVec 32 := Scalar.addi c0_i32_172 v191
  v192.toNat
def k0_dev21 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_176 : BitVec 32 := 6#32
  let v201 : BitVec 32 := Scalar.xori v2 c6_i32_176
  let c1_i32_182 : BitVec 32 := 1#32
  let v203 : BitVec 32 := Scalar.muli v201 c1_i32_182
  let v204 : BitVec 32 := Scalar.addi c0_i32_183 v203
  v204.toNat
def k0_off3 (d0 : Dev nD) (c1_i32_187 : BitVec 32) : Fin 3 → Nat :=
  let c1_i32_189 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v213 : BitVec 32 := Scalar.xori v2 c1_i32_187
  let c64_i32_188 : BitVec 32 := 64#32
  let v214 : BitVec 32 := Scalar.muli v213 c64_i32_188
  let c0_i32_197 : BitVec 32 := 0#32
  ![1, v214.toNat, 0]
def k0_dev22 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_187 : BitVec 32 := 1#32
  let v213 : BitVec 32 := Scalar.xori v2 c1_i32_187
  let c1_i32_193 : BitVec 32 := 1#32
  let v215 : BitVec 32 := Scalar.muli v213 c1_i32_193
  let v216 : BitVec 32 := Scalar.addi c0_i32_194 v215
  v216.toNat
def k0_dev23 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_198 : BitVec 32 := 3#32
  let v225 : BitVec 32 := Scalar.xori v2 c3_i32_198
  let c1_i32_204 : BitVec 32 := 1#32
  let v227 : BitVec 32 := Scalar.muli v225 c1_i32_204
  let v228 : BitVec 32 := Scalar.addi c0_i32_205 v227
  v228.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_209 : BitVec 32 := 4#32
  let v237 : BitVec 32 := Scalar.xori v2 c4_i32_209
  let c1_i32_214 : BitVec 32 := 1#32
  let v239 : BitVec 32 := Scalar.muli v237 c1_i32_214
  let v240 : BitVec 32 := Scalar.addi c0_i32_215 v239
  v240.toNat
def k0_dev25 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_219 : BitVec 32 := 2#32
  let v249 : BitVec 32 := Scalar.xori v2 c2_i32_219
  let c1_i32_224 : BitVec 32 := 1#32
  let v251 : BitVec 32 := Scalar.muli v249 c1_i32_224
  let v252 : BitVec 32 := Scalar.addi c0_i32_225 v251
  v252.toNat
def k0_dev26 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_229 : BitVec 32 := 5#32
  let v261 : BitVec 32 := Scalar.xori v2 c5_i32_229
  let c1_i32_234 : BitVec 32 := 1#32
  let v263 : BitVec 32 := Scalar.muli v261 c1_i32_234
  let v264 : BitVec 32 := Scalar.addi c0_i32_235 v263
  v264.toNat
def k0_dev27 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_239 : BitVec 32 := 7#32
  let v273 : BitVec 32 := Scalar.xori v2 c7_i32_239
  let c1_i32_244 : BitVec 32 := 1#32
  let v275 : BitVec 32 := Scalar.muli v273 c1_i32_244
  let v276 : BitVec 32 := Scalar.addi c0_i32_245 v275
  v276.toNat
def k0_dev28 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_249 : BitVec 32 := 6#32
  let v285 : BitVec 32 := Scalar.xori v2 c6_i32_249
  let c1_i32_254 : BitVec 32 := 1#32
  let v287 : BitVec 32 := Scalar.muli v285 c1_i32_254
  let v288 : BitVec 32 := Scalar.addi c0_i32_255 v287
  v288.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_259 : BitVec 32 := 32#32
  let v297 : BitVec 32 := Scalar.muli v2 c32_i32_259
  let v298 : Index := Scalar.indexCast v297
  let c0_260 : Index := 0#32
  ![v298.toNat, 0]
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_385 : BitVec 32 := 32#32
  let v419 : BitVec 32 := Scalar.muli v2 c32_i32_385
  let c0_i32_391 : BitVec 32 := 0#32
  ![v419.toNat, 0]
def k0_dev29 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_386 : BitVec 32 := 1#32
  let v420 : BitVec 32 := Scalar.xori v2 c1_i32_386
  let c1_i32_389 : BitVec 32 := 1#32
  let v421 : BitVec 32 := Scalar.muli v420 c1_i32_389
  let v422 : BitVec 32 := Scalar.addi c0_i32_390 v421
  v422.toNat
def k0_dev30 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_393 : BitVec 32 := 3#32
  let v429 : BitVec 32 := Scalar.xori v2 c3_i32_393
  let c1_i32_396 : BitVec 32 := 1#32
  let v430 : BitVec 32 := Scalar.muli v429 c1_i32_396
  let v431 : BitVec 32 := Scalar.addi c0_i32_397 v430
  v431.toNat
def k0_dev31 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_400 : BitVec 32 := 4#32
  let v438 : BitVec 32 := Scalar.xori v2 c4_i32_400
  let c1_i32_403 : BitVec 32 := 1#32
  let v439 : BitVec 32 := Scalar.muli v438 c1_i32_403
  let v440 : BitVec 32 := Scalar.addi c0_i32_404 v439
  v440.toNat
def k0_dev32 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_407 : BitVec 32 := 2#32
  let v447 : BitVec 32 := Scalar.xori v2 c2_i32_407
  let c1_i32_410 : BitVec 32 := 1#32
  let v448 : BitVec 32 := Scalar.muli v447 c1_i32_410
  let v449 : BitVec 32 := Scalar.addi c0_i32_411 v448
  v449.toNat
def k0_dev33 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_414 : BitVec 32 := 5#32
  let v456 : BitVec 32 := Scalar.xori v2 c5_i32_414
  let c1_i32_417 : BitVec 32 := 1#32
  let v457 : BitVec 32 := Scalar.muli v456 c1_i32_417
  let v458 : BitVec 32 := Scalar.addi c0_i32_418 v457
  v458.toNat
def k0_dev34 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_421 : BitVec 32 := 7#32
  let v465 : BitVec 32 := Scalar.xori v2 c7_i32_421
  let c1_i32_424 : BitVec 32 := 1#32
  let v466 : BitVec 32 := Scalar.muli v465 c1_i32_424
  let v467 : BitVec 32 := Scalar.addi c0_i32_425 v466
  v467.toNat
def k0_dev35 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_428 : BitVec 32 := 6#32
  let v474 : BitVec 32 := Scalar.xori v2 c6_i32_428
  let c1_i32_431 : BitVec 32 := 1#32
  let v475 : BitVec 32 := Scalar.muli v474 c1_i32_431
  let v476 : BitVec 32 := Scalar.addi c0_i32_432 v475
  v476.toNat
def k0_off6 (d0 : Dev nD) : Fin 3 → Nat :=
  let c0_437 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_436 : BitVec 32 := 64#32
  let v487 : BitVec 32 := Scalar.muli v2 c64_i32_436
  let v488 : Index := Scalar.indexCast v487
  let c0_438 : Index := 0#32
  ![0, v488.toNat, 0]
def k0_off7 (d0 : Dev nD) : Fin 3 → Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_582 : BitVec 32 := 64#32
  let v622 : BitVec 32 := Scalar.muli v2 c64_i32_582
  let c0_i32_590 : BitVec 32 := 0#32
  ![0, v622.toNat, 0]
def k0_dev36 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_583 : BitVec 32 := 1#32
  let v623 : BitVec 32 := Scalar.xori v2 c1_i32_583
  let c1_i32_588 : BitVec 32 := 1#32
  let v624 : BitVec 32 := Scalar.muli v623 c1_i32_588
  let v625 : BitVec 32 := Scalar.addi c0_i32_589 v624
  v625.toNat
def k0_dev37 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_594 : BitVec 32 := 3#32
  let v635 : BitVec 32 := Scalar.xori v2 c3_i32_594
  let c1_i32_599 : BitVec 32 := 1#32
  let v636 : BitVec 32 := Scalar.muli v635 c1_i32_599
  let v637 : BitVec 32 := Scalar.addi c0_i32_600 v636
  v637.toNat
def k0_dev38 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_605 : BitVec 32 := 4#32
  let v647 : BitVec 32 := Scalar.xori v2 c4_i32_605
  let c1_i32_610 : BitVec 32 := 1#32
  let v648 : BitVec 32 := Scalar.muli v647 c1_i32_610
  let v649 : BitVec 32 := Scalar.addi c0_i32_611 v648
  v649.toNat
def k0_dev39 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_616 : BitVec 32 := 2#32
  let v659 : BitVec 32 := Scalar.xori v2 c2_i32_616
  let c1_i32_621 : BitVec 32 := 1#32
  let v660 : BitVec 32 := Scalar.muli v659 c1_i32_621
  let v661 : BitVec 32 := Scalar.addi c0_i32_622 v660
  v661.toNat
def k0_dev40 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_627 : BitVec 32 := 5#32
  let v671 : BitVec 32 := Scalar.xori v2 c5_i32_627
  let c1_i32_632 : BitVec 32 := 1#32
  let v672 : BitVec 32 := Scalar.muli v671 c1_i32_632
  let v673 : BitVec 32 := Scalar.addi c0_i32_633 v672
  v673.toNat
def k0_dev41 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_638 : BitVec 32 := 7#32
  let v683 : BitVec 32 := Scalar.xori v2 c7_i32_638
  let c1_i32_643 : BitVec 32 := 1#32
  let v684 : BitVec 32 := Scalar.muli v683 c1_i32_643
  let v685 : BitVec 32 := Scalar.addi c0_i32_644 v684
  v685.toNat
def k0_dev42 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_649 : BitVec 32 := 6#32
  let v695 : BitVec 32 := Scalar.xori v2 c6_i32_649
  let c1_i32_654 : BitVec 32 := 1#32
  let v696 : BitVec 32 := Scalar.muli v695 c1_i32_654
  let v697 : BitVec 32 := Scalar.addi c0_i32_655 v696
  v697.toNat
def k0_off8 (d0 : Dev nD) : Fin 3 → Nat :=
  let c1_663 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_662 : BitVec 32 := 64#32
  let v712 : BitVec 32 := Scalar.muli v2 c64_i32_662
  let v713 : Index := Scalar.indexCast v712
  let c0_664 : Index := 0#32
  ![1, v713.toNat, 0]
def k0_off9 (d0 : Dev nD) : Fin 3 → Nat :=
  let c1_i32_804 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_801 : BitVec 32 := 64#32
  let v847 : BitVec 32 := Scalar.muli v2 c64_i32_801
  let c0_i32_809 : BitVec 32 := 0#32
  ![1, v847.toNat, 0]
def k0_dev43 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_802 : BitVec 32 := 1#32
  let v848 : BitVec 32 := Scalar.xori v2 c1_i32_802
  let c1_i32_807 : BitVec 32 := 1#32
  let v849 : BitVec 32 := Scalar.muli v848 c1_i32_807
  let v850 : BitVec 32 := Scalar.addi c0_i32_808 v849
  v850.toNat
def k0_dev44 (d0 : Dev nD) : Nat :=
  let c0_i32_819 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_813 : BitVec 32 := 3#32
  let v860 : BitVec 32 := Scalar.xori v2 c3_i32_813
  let c1_i32_818 : BitVec 32 := 1#32
  let v861 : BitVec 32 := Scalar.muli v860 c1_i32_818
  let v862 : BitVec 32 := Scalar.addi c0_i32_819 v861
  v862.toNat
def k0_dev45 (d0 : Dev nD) : Nat :=
  let c0_i32_830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_824 : BitVec 32 := 4#32
  let v872 : BitVec 32 := Scalar.xori v2 c4_i32_824
  let c1_i32_829 : BitVec 32 := 1#32
  let v873 : BitVec 32 := Scalar.muli v872 c1_i32_829
  let v874 : BitVec 32 := Scalar.addi c0_i32_830 v873
  v874.toNat
def k0_dev46 (d0 : Dev nD) : Nat :=
  let c0_i32_841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_835 : BitVec 32 := 2#32
  let v884 : BitVec 32 := Scalar.xori v2 c2_i32_835
  let c1_i32_840 : BitVec 32 := 1#32
  let v885 : BitVec 32 := Scalar.muli v884 c1_i32_840
  let v886 : BitVec 32 := Scalar.addi c0_i32_841 v885
  v886.toNat
def k0_dev47 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_846 : BitVec 32 := 5#32
  let v896 : BitVec 32 := Scalar.xori v2 c5_i32_846
  let c1_i32_851 : BitVec 32 := 1#32
  let v897 : BitVec 32 := Scalar.muli v896 c1_i32_851
  let v898 : BitVec 32 := Scalar.addi c0_i32_852 v897
  v898.toNat
def k0_dev48 (d0 : Dev nD) : Nat :=
  let c0_i32_863 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_857 : BitVec 32 := 7#32
  let v908 : BitVec 32 := Scalar.xori v2 c7_i32_857
  let c1_i32_862 : BitVec 32 := 1#32
  let v909 : BitVec 32 := Scalar.muli v908 c1_i32_862
  let v910 : BitVec 32 := Scalar.addi c0_i32_863 v909
  v910.toNat
def k0_dev49 (d0 : Dev nD) : Nat :=
  let c0_i32_874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_868 : BitVec 32 := 6#32
  let v920 : BitVec 32 := Scalar.xori v2 c6_i32_868
  let c1_i32_873 : BitVec 32 := 1#32
  let v921 : BitVec 32 := Scalar.muli v920 c1_i32_873
  let v922 : BitVec 32 := Scalar.addi c0_i32_874 v921
  v922.toNat
def k0_dev50 (d0 : Dev nD) : Nat :=
  let c0_i32_1202_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1199_r0 : BitVec 32 := 1#32
  let v1207_r0 : BitVec 32 := Scalar.xori v2 c1_i32_1199_r0
  let c1_i32_1201_r0 : BitVec 32 := 1#32
  let v1208_r0 : BitVec 32 := Scalar.muli v1207_r0 c1_i32_1201_r0
  let v1209_r0 : BitVec 32 := Scalar.addi c0_i32_1202_r0 v1208_r0
  v1209_r0.toNat
def k0_dev51 (d0 : Dev nD) : Nat :=
  let c0_i32_1206_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1203_r0 : BitVec 32 := 3#32
  let v1210_r0 : BitVec 32 := Scalar.xori v2 c3_i32_1203_r0
  let c1_i32_1205_r0 : BitVec 32 := 1#32
  let v1211_r0 : BitVec 32 := Scalar.muli v1210_r0 c1_i32_1205_r0
  let v1212_r0 : BitVec 32 := Scalar.addi c0_i32_1206_r0 v1211_r0
  v1212_r0.toNat
def k0_dev52 (d0 : Dev nD) : Nat :=
  let c0_i32_1210_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1207_r0 : BitVec 32 := 4#32
  let v1213_r0 : BitVec 32 := Scalar.xori v2 c4_i32_1207_r0
  let c1_i32_1209_r0 : BitVec 32 := 1#32
  let v1214_r0 : BitVec 32 := Scalar.muli v1213_r0 c1_i32_1209_r0
  let v1215_r0 : BitVec 32 := Scalar.addi c0_i32_1210_r0 v1214_r0
  v1215_r0.toNat
def k0_dev53 (d0 : Dev nD) : Nat :=
  let c0_i32_1214_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1211_r0 : BitVec 32 := 2#32
  let v1216_r0 : BitVec 32 := Scalar.xori v2 c2_i32_1211_r0
  let c1_i32_1213_r0 : BitVec 32 := 1#32
  let v1217_r0 : BitVec 32 := Scalar.muli v1216_r0 c1_i32_1213_r0
  let v1218_r0 : BitVec 32 := Scalar.addi c0_i32_1214_r0 v1217_r0
  v1218_r0.toNat
def k0_dev54 (d0 : Dev nD) : Nat :=
  let c0_i32_1218_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1215_r0 : BitVec 32 := 5#32
  let v1219_r0 : BitVec 32 := Scalar.xori v2 c5_i32_1215_r0
  let c1_i32_1217_r0 : BitVec 32 := 1#32
  let v1220_r0 : BitVec 32 := Scalar.muli v1219_r0 c1_i32_1217_r0
  let v1221_r0 : BitVec 32 := Scalar.addi c0_i32_1218_r0 v1220_r0
  v1221_r0.toNat
def k0_dev55 (d0 : Dev nD) : Nat :=
  let c0_i32_1222_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1219_r0 : BitVec 32 := 7#32
  let v1222_r0 : BitVec 32 := Scalar.xori v2 c7_i32_1219_r0
  let c1_i32_1221_r0 : BitVec 32 := 1#32
  let v1223_r0 : BitVec 32 := Scalar.muli v1222_r0 c1_i32_1221_r0
  let v1224_r0 : BitVec 32 := Scalar.addi c0_i32_1222_r0 v1223_r0
  v1224_r0.toNat
def k0_dev56 (d0 : Dev nD) : Nat :=
  let c0_i32_1226_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1223_r0 : BitVec 32 := 6#32
  let v1225_r0 : BitVec 32 := Scalar.xori v2 c6_i32_1223_r0
  let c1_i32_1225_r0 : BitVec 32 := 1#32
  let v1226_r0 : BitVec 32 := Scalar.muli v1225_r0 c1_i32_1225_r0
  let v1227_r0 : BitVec 32 := Scalar.addi c0_i32_1226_r0 v1226_r0
  v1227_r0.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x2048 : Shape := ⟨2, ![256, 2048]⟩
abbrev S2048x512 : Shape := ⟨2, ![2048, 512]⟩
abbrev S512x2048 : Shape := ⟨2, ![512, 2048]⟩
abbrev S256x512 : Shape := ⟨2, ![256, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S512x2048, .bf16⟩
  | .hbm, ⟨5, _⟩ => ⟨S512x2048, .bf16⟩
  | .hbm, ⟨6, _⟩ => ⟨S512x2048, .bf16⟩
  | .hbm, ⟨7, _⟩ => ⟨S256x2048, .f32⟩
  | .hbm, ⟨8, _⟩ => ⟨S2048x512, .f32⟩
  | .hbm, ⟨9, _⟩ => ⟨S256x512, .f32⟩
  | .hbm, ⟨10, _⟩ => ⟨S256x512, .bf16⟩
  | .hbm, ⟨11, _⟩ => ⟨S_, .bf16⟩
  | .hbm, ⟨12, _⟩ => ⟨S256x512, .bf16⟩
  | .hbm, ⟨13, _⟩ => ⟨S256x512, .bf16⟩
  | .hbm, ⟨14, _⟩ => ⟨S256x512, .f32⟩
  | .hbm, ⟨15, _⟩ => ⟨S512x2048, .f32⟩
  | .hbm, ⟨16, _⟩ => ⟨S256x2048, .f32⟩
  | .hbm, ⟨17, _⟩ => ⟨S256x2048, .bf16⟩
  | .hbm, ⟨18, _⟩ => ⟨S256x2048, .f32⟩
  | .hbm, ⟨19, _⟩ => ⟨S2048x512, .f32⟩
  | .hbm, ⟨20, _⟩ => ⟨S256x512, .f32⟩
  | .hbm, ⟨21, _⟩ => ⟨S256x512, .bf16⟩
  | .hbm, ⟨22, _⟩ => ⟨S_, .bf16⟩
  | .hbm, ⟨23, _⟩ => ⟨S256x512, .bf16⟩
  | .hbm, ⟨24, _⟩ => ⟨S256x512, .bf16⟩
  | .hbm, ⟨25, _⟩ => ⟨S256x512, .f32⟩
  | .hbm, ⟨26, _⟩ => ⟨S512x2048, .f32⟩
  | .hbm, ⟨27, _⟩ => ⟨S256x2048, .f32⟩
  | .hbm, ⟨28, _⟩ => ⟨S256x2048, .bf16⟩
  | .hbm, ⟨29, _⟩ => ⟨S256x2048, .f32⟩
  | .hbm, ⟨30, _⟩ => ⟨S2048x512, .f32⟩
  | .hbm, ⟨31, _⟩ => ⟨S256x512, .f32⟩
  | .hbm, ⟨32, _⟩ => ⟨S256x512, .bf16⟩
  | .hbm, ⟨33, _⟩ => ⟨S_, .bf16⟩
  | .hbm, ⟨34, _⟩ => ⟨S256x512, .bf16⟩
  | .hbm, ⟨35, _⟩ => ⟨S256x512, .bf16⟩
  | .hbm, ⟨36, _⟩ => ⟨S256x512, .f32⟩
  | .hbm, ⟨37, _⟩ => ⟨S512x2048, .f32⟩
  | .hbm, ⟨38, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.Loop.lean ====
/-
# The kernel's body as loops over the seven peers

The kernel is written with Python loops over the seven other devices; its printed text is the loops unrolled, cut in
44 windows. This module names what one turn of each loop does — as a function of the turn `i : Fin 7` — and states the
body as those loops (`loopBody`), which the printed body is by unfolding (`body_eq`).
-/
module

public import proofs.«01_k».proof.Proof.Gen.KernelIdeal
public import proofs.«01_k».proof.Proof.Gen.KernelIdeal.Skeleton

@[expose] public section

noncomputable section

namespace Cert.Mesh

open Cert.KernelIdeal Cert.KernelIdeal.Gen
open Idealize.ShloMosaic Idealize.SL.Sem
open Cert.KernelIdeal.Facts

/-! ## The peers -/

/-- Turn `i` of a loop addresses the device whose number is this device's xor `1 + turn i`. -/
def turn : Fin 7 → Fin 7 := ![0, 2, 3, 1, 4, 6, 5]
/-- The word xored at turn `i`: 1, 3, 4, 2, 5, 7, 6. -/
def word (i : Fin 7) : BitVec 32 := BitVec.ofNat 32 (1 + (turn i).val)

/-- The number of the device addressed with word `t`, as the kernel computes it. -/
def peerNat (c : Dev nD) (t : BitVec 32) : ℕ :=
  (Scalar.addi 0#32 (Scalar.muli (Scalar.xori (Scalar.remsi (Scalar.divsi (Dev.word c) 1#32) 8#32) t) 1#32)).toNat

/-- It is the number of a device. -/
theorem peerNat_lt : ∀ (c : Dev nD) (i : Fin 7), peerNat c (word i) < nD := by decide +kernel

/-- The device addressed at turn `i`. -/
def peer (c : Dev nD) (i : Fin 7) : Dev nD := ⟨peerNat c (word i), peerNat_lt c i⟩

/-! ## The buffers and the semaphores -/

/-- The staged block of `x`. -/
abbrev xM : Memref sig .tc .vmem S256x256 .bf16 := Memref.whole cc0_stg0_0
/-- The staged block of `Win0`. -/
abbrev w0M : Memref sig .tc .vmem S256x512 .bf16 := Memref.whole cc0_stg1_0
/-- The staged block of `Wout0`. -/
abbrev o0M : Memref sig .tc .vmem S512x256 .bf16 := Memref.whole cc0_stg2_0
/-- The staged block of `Win1`. -/
abbrev w1M : Memref sig .tc .vmem S256x512 .bf16 := Memref.whole cc0_stg3_0
/-- The staged block of `Wout1`. -/
abbrev o1M : Memref sig .tc .vmem S512x256 .bf16 := Memref.whole cc0_stg4_0
/-- The staged block of `Win2`. -/
abbrev w2M : Memref sig .tc .vmem S256x512 .bf16 := Memref.whole cc0_stg5_0
/-- The staged block of `Wout2`. -/
abbrev o2M : Memref sig .tc .vmem S512x256 .bf16 := Memref.whole cc0_stg6_0
/-- The staged block of the result. -/
abbrev outM : Memref sig .tc .vmem S256x256 .f32 := Memref.whole cc0_stg7_0
/-- The device's part of the first product. -/
abbrev partM : Memref sig .tc .vmem S256x512 .bf16 := Memref.whole cc0_scratch0
/-- The summed rows of the activation. -/
abbrev hsM : Memref sig .tc .vmem S32x512 .bf16 := Memref.whole cc0_scratch1
/-- The gathered activation. -/
abbrev hfullM : Memref sig .tc .vmem S256x512 .bf16 := Memref.whole cc0_scratch2
/-- The landing slots of the first scatter. -/
abbrev arecvM : Memref sig .tc .vmem S7x32x512 .bf16 := Memref.whole cc0_scratch3
/-- The device's parts of the two weight products, a plane each. -/
abbrev mbufM : Memref sig .tc .vmem S2x512x512 .bf16 := Memref.whole cc0_scratch4
/-- The summed rows of the two planes. -/
abbrev msM : Memref sig .tc .vmem S2x64x512 .bf16 := Memref.whole cc0_scratch5
/-- The landing slots of the planes' scatters. -/
abbrev mrecvM : Memref sig .tc .vmem S14x64x512 .bf16 := Memref.whole cc0_scratch6
/-- The gathered planes. -/
abbrev mfullM : Memref sig .tc .vmem S2x512x512 .bf16 := Memref.whole cc0_scratch7

/-- The semaphore of the entry handshake: the runtime's, one per core. -/
abbrev barS : Sem sig := (SemArray.scalar (sig.barrier 0 rfl) : Sems sig S_).sem
/-- The semaphore of the exit handshake, the kernel's own. -/
abbrev endS : Sem sig := (cc0_scoped0 : Sems sig S_).sem

/-! ## The transfers

A transfer kind is a pair: whether it is of a gather (`true`) or of a scatter (`false`), and what it moves — rows of the
first product (`none`), or rows of plane `p` of the products of the weight matrices (`some p`). -/

/-- The shape one transfer moves. -/
abbrev shp : Option (Fin 2) → Shape
  | none => S32x512
  | some _ => S64x512

/-- Position `7 p + i` is one of fourteen. -/
theorem inb14 (p : Fin 2) (i : Fin 7) : ∀ a, (![7 * p.val + i.val] : Fin 1 → Nat) a + S1.size a ≤ S14.size a := by
  revert p i; decide
/-- Position `i` is one of seven. -/
theorem inb7 (i : Fin 7) : ∀ a, (![i.val] : Fin 1 → Nat) a + S1.size a ≤ S7.size a := by
  revert i; decide

/-- Element `i` of an array of seven semaphores. -/
abbrev at7 (a : DmaSems sig S7) (i : Fin 7) : DmaSem sig :=
  ((a.slice (Rect.unit (s := S7) ![i.val] S1.size (inb7 i))).squeeze S_ squeezes_S1_S_).sem
/-- Element `7 p + i` of an array of fourteen semaphores. -/
abbrev at14 (a : DmaSems sig S14) (p : Fin 2) (i : Fin 7) : DmaSem sig :=
  ((a.slice (Rect.unit (s := S14) ![7 * p.val + i.val] S1.size (inb14 p i))).squeeze S_ squeezes_S1_S_).sem

/-- The semaphore the source of turn `i`'s transfer pays. -/
def semS : Bool → Option (Fin 2) → Fin 7 → DmaSem sig
  | false, none, i => at7 cc0_scratch8 i
  | true, none, i => at7 cc0_scratch10 i
  | false, some p, i => at14 cc0_scratch12 p i
  | true, some p, i => at14 cc0_scratch14 p i
/-- The semaphore the landing of turn `i`'s transfer pays, on the device it lands at. -/
def semR : Bool → Option (Fin 2) → Fin 7 → DmaSem sig
  | false, none, i => at7 cc0_scratch9 i
  | true, none, i => at7 cc0_scratch11 i
  | false, some p, i => at14 cc0_scratch13 p i
  | true, some p, i => at14 cc0_scratch15 p i

/-- The row offset, in plane `p`, of the rows turn `i`'s scatter sends. -/
def offM (c : Dev nD) (p : Fin 2) (t : BitVec 32) : Fin 3 → Nat :=
  ![p.val, (Scalar.muli (Scalar.xori (Scalar.remsi (Scalar.divsi (Dev.word c) 1#32) 8#32) t) 64#32).toNat, 0]
/-- The row offset, in plane `p`, of this device's own rows. -/
def offO (c : Dev nD) (p : Fin 2) : Fin 3 → Nat :=
  ![p.val, (Scalar.muli (Scalar.remsi (Scalar.divsi (Dev.word c) 1#32) 8#32) 64#32).toNat, 0]

/-- The rows a scatter sends lie in the plane. -/
theorem offM_inb : ∀ (c : Dev nD) (p : Fin 2) (i : Fin 7) (a), (offM c p (word i)) a + S1x64x512.size a ≤ S2x512x512.size a := by
  decide +kernel
/-- A device's own rows lie in the plane. -/
theorem offO_inb : ∀ (c : Dev nD) (p : Fin 2) (a), (offO c p) a + S1x64x512.size a ≤ S2x512x512.size a := by
  decide +kernel
/-- Slot `i` lies in the first scatter's landing buffer. -/
theorem inbA (i : Fin 7) : ∀ a, (![i.val, 0, 0] : Fin 3 → Nat) a + S1x32x512.size a ≤ S7x32x512.size a := by
  revert i; decide
/-- Slot `7 p + i` lies in the planes' landing buffer. -/
theorem inbB (p : Fin 2) (i : Fin 7) : ∀ a, (![7 * p.val + i.val, 0, 0] : Fin 3 → Nat) a + S1x64x512.size a ≤ S14x64x512.size a := by
  revert p i; decide
/-- The summed rows of plane `p` lie in their buffer. -/
theorem inbMs (p : Fin 2) : ∀ a, (![p.val, 0, 0] : Fin 3 → Nat) a + S1x64x512.size a ≤ S2x64x512.size a := by
  revert p; decide
/-- Plane `p` lies in its buffer. -/
theorem inbMf (p : Fin 2) : ∀ a, (![p.val, 0, 0] : Fin 3 → Nat) a + S1x512x512.size a ≤ S2x512x512.size a := by
  revert p; decide

/-- What turn `i`'s transfer reads on device `c`. -/
def src (c : Dev nD) : (g : Bool) → (o : Option (Fin 2)) → Fin 7 → Memref sig .tc .vmem (shp o) .bf16
  | false, none, i => partM.slice (Rect.unit (s := S256x512) (k0_off1 c (word i)) S32x512.size (k0_off1_inb c (turn i))) (fun _ => rfl)
  | true, none, _ => hsM
  | false, some p, i => (mbufM.slice (Rect.unit (s := S2x512x512) (offM c p (word i)) S1x64x512.size (offM_inb c p i)) (fun _ => rfl)).squeeze S64x512 squeezes_S1x64x512_S64x512
  | true, some p, _ => (msM.slice (Rect.unit (s := S2x64x512) ![p.val, 0, 0] S1x64x512.size (inbMs p)) (fun _ => rfl)).squeeze S64x512 squeezes_S1x64x512_S64x512
/-- Where turn `i`'s transfer of device `c` lands, on the device it lands at. -/
def dst (c : Dev nD) : (g : Bool) → (o : Option (Fin 2)) → Fin 7 → Memref sig .tc .vmem (shp o) .bf16
  | false, none, i => (arecvM.slice (Rect.unit (s := S7x32x512) ![i.val, 0, 0] S1x32x512.size (inbA i)) (fun _ => rfl)).squeeze S32x512 squeezes_S1x32x512_S32x512
  | true, none, _ => hfullM.slice (Rect.unit (s := S256x512) (k0_off5 c) S32x512.size (k0_off5_inb c)) (fun _ => rfl)
  | false, some p, i => (mrecvM.slice (Rect.unit (s := S14x64x512) ![7 * p.val + i.val, 0, 0] S1x64x512.size (inbB p i)) (fun _ => rfl)).squeeze S64x512 squeezes_S1x64x512_S64x512
  | true, some p, _ => (mfullM.slice (Rect.unit (s := S2x512x512) (offO c p) S1x64x512.size (offO_inb c p)) (fun _ => rfl)).squeeze S64x512 squeezes_S1x64x512_S64x512

/-- The rows a scatter sends are whole words, -/
theorem wordsM : ∀ (c : Dev nD) (p : Fin 2) (i : Fin 7), (Rect.unit (s := S2x512x512) (offM c p (word i)) S1x64x512.size (offM_inb c p i)).WholeWords (EltTy.packing .bf16) := by
  decide +kernel
/-- a device's own rows of a plane are, -/
theorem wordsO : ∀ (c : Dev nD) (p : Fin 2), (Rect.unit (s := S2x512x512) (offO c p) S1x64x512.size (offO_inb c p)).WholeWords (EltTy.packing .bf16) := by
  decide +kernel
/-- a landing slot of the first scatter is, -/
theorem wordsA : ∀ (i : Fin 7), (Rect.unit (s := S7x32x512) ![i.val, 0, 0] S1x32x512.size (inbA i)).WholeWords (EltTy.packing .bf16) := by
  decide +kernel
/-- a landing slot of the planes' scatters is, -/
theorem wordsB : ∀ (p : Fin 2) (i : Fin 7), (Rect.unit (s := S14x64x512) ![7 * p.val + i.val, 0, 0] S1x64x512.size (inbB p i)).WholeWords (EltTy.packing .bf16) := by
  decide +kernel
/-- and the summed rows of a plane are. -/
theorem wordsMs : ∀ (p : Fin 2), (Rect.unit (s := S2x64x512) ![p.val, 0, 0] S1x64x512.size (inbMs p)).WholeWords (EltTy.packing .bf16) := by
  decide +kernel

/-- Every transfer's source is whole words. -/
theorem src_words (c : Dev nD) : ∀ (g : Bool) (o : Option (Fin 2)) (i : Fin 7), (src c g o i).view.WordExact
  | false, none, i => (Memref.isWhole_whole _).wordExact_slice rfl _ (k0_off1_wordsbf16 c (turn i))
  | true, none, _ => (Memref.isWhole_whole _).wordExact
  | false, some p, i => ((Memref.isWhole_whole _).wordExact_slice rfl _ (wordsM c p i)).reshape _ _
  | true, some p, _ => ((Memref.isWhole_whole _).wordExact_slice rfl _ (wordsMs p)).reshape _ _
/-- Every transfer's landing is whole words. -/
theorem dst_words (c : Dev nD) : ∀ (g : Bool) (o : Option (Fin 2)) (i : Fin 7), (dst c g o i).view.WordExact
  | false, none, i => ((Memref.isWhole_whole _).wordExact_slice rfl _ (wordsA i)).reshape _ _
  | true, none, _ => (Memref.isWhole_whole _).wordExact_slice rfl _ (k0_off5_wordsbf16 c)
  | false, some p, i => ((Memref.isWhole_whole _).wordExact_slice rfl _ (wordsB p i)).reshape _ _
  | true, some p, _ => ((Memref.isWhole_whole _).wordExact_slice rfl _ (wordsO c p)).reshape _ _
/-- No transfer lands in a SparseCore's scratch memory. -/
theorem dst_hsc (c : Dev nD) : ∀ (g : Bool) (o : Option (Fin 2)) (i : Fin 7), (dst c g o i).view.ref.isScScratch = false
  | false, none, _ => rfl
  | true, none, _ => rfl
  | false, some _, _ => rfl
  | true, some _, _ => rfl

variable {F : FTy → Type} [FloatOps F]

/-- The effects of a core of the mesh, over float values `F`. -/
abbrev Eff (F : FTy → Type) := TpuEff nD τ sig (Elt F) Λ₀ .tc

/-- Seven turns in order, what they return handed on as a function of the turn. -/
def seq7 {α β : Type} (f : Fin 7 → Prog (Eff F) α) (k : (Fin 7 → α) → Prog (Eff F) β) : Prog (Eff F) β := do
  let a0 ← f 0
  let a1 ← f 1
  let a2 ← f 2
  let a3 ← f 3
  let a4 ← f 4
  let a5 ← f 5
  let a6 ← f 6
  k ![a0, a1, a2, a3, a4, a5, a6]

/-- Seven turns in order that return nothing. -/
def run7 {β : Type} (f : Fin 7 → Prog (Eff F) PUnit) (k : Prog (Eff F) β) : Prog (Eff F) β := do
  f 0; f 1; f 2; f 3; f 4; f 5; f 6; k

/-- One unit to turn `i`'s device at a handshake's semaphore. -/
def signalOp (s : Sem sig) (c : Dev nD) (i : Fin 7) : Prog (Eff F) PUnit := semSignalWord (peer c i) s 1#32

/-- The issue of turn `i`'s transfer. -/
def sendOp (c : Dev nD) (g : Bool) (o : Option (Fin 2)) (i : Fin 7) : Prog (Eff F) PUnit :=
  Prog.lift (.enqueueDma (src c g o i) (.remote (Dev.tc (peer c i)) (dst c g o i) (.dma (semS g o i)) (dst_hsc c g o i)) (.dma (semR g o i))
    (src_words c g o i) (dst_words c g o i) ⟨⟨rfl, Or.inl rfl⟩, trivial⟩)

/-- The two waits of turn `i`: that its own transfer is read, that the peer's has landed. -/
def waitOp (c : Dev nD) (g : Bool) (o : Option (Fin 2)) (i : Fin 7) : Prog (Eff F) PUnit := do
  Prog.lift (.waitDma2 (semS g o i) (dst c g o i) (src c g o i) (dst_words c g o i) (src_words c g o i))
  Prog.lift (.waitDma2 (semR g o i) (src c g o i) (dst c g o i) (src_words c g o i) (dst_words c g o i))

/-- The two waits of turn `i` of the first scatter, then what landed. -/
def takeA (c : Dev nD) (i : Fin 7) : Prog (Eff F) (Vec F S1x32x512 .bf16) := do
  waitOp c false none i
  Prog.lift (.load arecvM (Rect.unit (s := S7x32x512) ![i.val, 0, 0] S1x32x512.size (inbA i)).toLoadRect (View.loadsAt_vmem h_S1x32x512))

/-- The two waits of turn `i` of the scatter of plane `p`, then what landed. -/
def takeM (c : Dev nD) (p : Fin 2) (i : Fin 7) : Prog (Eff F) (Vec F S1x64x512 .bf16) := do
  waitOp c false (some p) i
  Prog.lift (.load mrecvM (Rect.unit (s := S14x64x512) ![7 * p.val + i.val, 0, 0] S1x64x512.size (inbB p i)).toLoadRect (View.loadsAt_vmem h_S1x64x512))

/-- The first scatter's sum, from this device's own rows and the seven landed ones: before the last addend. -/
def accA (v : Vec F S32x512 .bf16) (g : Fin 7 → Vec F S1x32x512 .bf16) : FVec F S32x512 .f32 :=
  k0_pay7 (k0_pay6 (k0_pay5 (k0_pay4 v (g 0)) (g 1)) (g 2) (g 3)) (g 4) (g 5)
/-- Plane 0's sum, before the last addend. -/
def acc0 (v : Vec F S1x64x512 .bf16) (g : Fin 7 → Vec F S1x64x512 .bf16) : FVec F S64x512 .f32 :=
  k0_pay15 (k0_pay14 (k0_pay13 (k0_pay12 (k0_pay11 v) (g 0)) (g 1) (g 2)) (g 3)) (g 4) (g 5)
/-- Plane 1's sum, before the last addend. -/
def acc1 (v : Vec F S1x64x512 .bf16) (g : Fin 7 → Vec F S1x64x512 .bf16) : FVec F S64x512 .f32 :=
  k0_pay23 (k0_pay22 (k0_pay21 (k0_pay20 (k0_pay19 v) (g 0)) (g 1) (g 2)) (g 3)) (g 4) (g 5)

/-- A plane's rows are packed, -/
theorem packedMf : ∀ (p : Fin 2), (Rect.unit (s := S2x512x512) ![p.val, 0, 0] S1x512x512.size (inbMf p)).PackedRows (EltTy.packing .bf16) := by
  decide +kernel
/-- the summed rows of a plane are, -/
theorem packedMs : ∀ (p : Fin 2), (Rect.unit (s := S2x64x512) ![p.val, 0, 0] S1x64x512.size (inbMs p)).PackedRows (EltTy.packing .bf16) := by
  decide +kernel
/-- and a device's own rows of a plane are. -/
theorem packedO : ∀ (c : Dev nD) (p : Fin 2), (Rect.unit (s := S2x512x512) (offO c p) S1x64x512.size (offO_inb c p)).PackedRows (EltTy.packing .bf16) := by
  decide +kernel

/-- A product of weight blocks written to plane `p`, what was there read first and dropped. -/
def putM (p : Fin 2) (v : FVec F S1x512x512 .bf16) : Prog (Eff F) PUnit := do
  let _ : Vec F S1x512x512 .bf16 ← Prog.lift (.load mbufM (Rect.unit (s := S2x512x512) ![p.val, 0, 0] S1x512x512.size (inbMf p)).toLoadRect (View.loadsAt_vmem h_S1x512x512))
  Prog.lift (.store mbufM (Rect.unit (s := S2x512x512) ![p.val, 0, 0] S1x512x512.size (inbMf p)) v Finset.univ
    (View.stores_vmem h_S1x512x512 ((Memref.isWhole_whole _).storeExact_slice rfl _ (packedMf p)) (fun _ => rfl)) (.inl rfl))

/-- This device's own rows of plane `p`. -/
def ownM (c : Dev nD) (p : Fin 2) : Prog (Eff F) (Vec F S1x64x512 .bf16) :=
  Prog.lift (.load mbufM (Rect.unit (s := S2x512x512) (offO c p) S1x64x512.size (offO_inb c p)).toLoadRect (View.loadsAt_vmem h_S1x64x512))

/-- The summed rows of plane `p` written where the gather reads them. -/
def putMs (p : Fin 2) (v : FVec F S1x64x512 .bf16) : Prog (Eff F) PUnit := do
  let _ : Vec F S1x64x512 .bf16 ← Prog.lift (.load msM (Rect.unit (s := S2x64x512) ![p.val, 0, 0] S1x64x512.size (inbMs p)).toLoadRect (View.loadsAt_vmem h_S1x64x512))
  Prog.lift (.store msM (Rect.unit (s := S2x64x512) ![p.val, 0, 0] S1x64x512.size (inbMs p)) v Finset.univ
    (View.stores_vmem h_S1x64x512 ((Memref.isWhole_whole _).storeExact_slice rfl _ (packedMs p)) (fun _ => rfl)) (.inl rfl))

/-- The summed rows of plane `p` written to this device's own rows of the gathered plane. -/
def putMf (c : Dev nD) (p : Fin 2) (v : FVec F S1x64x512 .bf16) : Prog (Eff F) PUnit := do
  let _ : Vec F S1x64x512 .bf16 ← Prog.lift (.load mfullM (Rect.unit (s := S2x512x512) (offO c p) S1x64x512.size (offO_inb c p)).toLoadRect (View.loadsAt_vmem h_S1x64x512))
  Prog.lift (.store mfullM (Rect.unit (s := S2x512x512) (offO c p) S1x64x512.size (offO_inb c p)) v Finset.univ
    (View.stores_vmem h_S1x64x512 ((Memref.isWhole_whole _).storeExact_slice rfl _ (packedO c p)) (fun _ => rfl)) (.inl rfl))

/-- The gathered plane `p`. -/
def getMf (p : Fin 2) : Prog (Eff F) (Vec F S1x512x512 .bf16) :=
  Prog.lift (.load mfullM (Rect.unit (s := S2x512x512) ![p.val, 0, 0] S1x512x512.size (inbMf p)).toLoadRect (View.loadsAt_vmem h_S1x512x512))

/-- The first product of this device's blocks, written to the buffer the scatter reads. -/
def firstOp : Prog (Eff F) PUnit := do
  let x : Vec F S256x256 .bf16 ← Prog.lift (.load xM (Rect.unit (s := S256x256) ![0, 0] S256x256.size inb_S256x256_S256x256_0_0).toLoadRect (View.loadsAt_vmem h_S256x256))
  let w : Vec F S256x512 .bf16 ← Prog.lift (.load w0M (Rect.unit (s := S256x512) ![0, 0] S256x512.size inb_S256x512_S256x512_0_0).toLoadRect (View.loadsAt_vmem h_S256x512))
  let _ : Vec F S256x512 .bf16 ← Prog.lift (.load partM (Rect.unit (s := S256x512) ![0, 0] S256x512.size inb_S256x512_S256x512_0_0).toLoadRect (View.loadsAt_vmem h_S256x512))
  Prog.lift (.store partM (Rect.unit (s := S256x512) ![0, 0] S256x512.size inb_S256x512_S256x512_0_0) (k0_pay1 x w) Finset.univ (View.stores_vmem h_S256x512 ((Memref.isWhole_whole _).storeExact_slice rfl _ packedbf16_S256x512_S256x512_0_0) (fun _ => rfl)) (.inl rfl))

/-- The two products of weight blocks, written to the planes the scatters read. -/
def weightsOp : Prog (Eff F) PUnit := do
  let a : Vec F S512x256 .bf16 ← Prog.lift (.load o0M (Rect.unit (s := S512x256) ![0, 0] S512x256.size inb_S512x256_S512x256_0_0).toLoadRect (View.loadsAt_vmem h_S512x256))
  let b : Vec F S256x512 .bf16 ← Prog.lift (.load w1M (Rect.unit (s := S256x512) ![0, 0] S256x512.size inb_S256x512_S256x512_0_0).toLoadRect (View.loadsAt_vmem h_S256x512))
  putM 0 (k0_pay2 a b)
  let a : Vec F S512x256 .bf16 ← Prog.lift (.load o1M (Rect.unit (s := S512x256) ![0, 0] S512x256.size inb_S512x256_S512x256_0_0).toLoadRect (View.loadsAt_vmem h_S512x256))
  let b : Vec F S256x512 .bf16 ← Prog.lift (.load w2M (Rect.unit (s := S256x512) ![0, 0] S256x512.size inb_S256x512_S256x512_0_0).toLoadRect (View.loadsAt_vmem h_S256x512))
  putM 1 (k0_pay3 a b)

/-- This device's own rows of the first product. -/
def ownA (c : Dev nD) : Prog (Eff F) (Vec F S32x512 .bf16) :=
  Prog.lift (.load partM (Rect.unit (s := S256x512) (k0_off4 c) S32x512.size (k0_off4_inb c)).toLoadRect (View.loadsAt_vmem h_S32x512))

/-- The summed rows written where the gather reads them. -/
def putHs (v : FVec F S32x512 .bf16) : Prog (Eff F) PUnit := do
  let _ : Vec F S32x512 .bf16 ← Prog.lift (.load hsM (Rect.unit (s := S32x512) ![0, 0] S32x512.size inb_S32x512_S32x512_0_0).toLoadRect (View.loadsAt_vmem h_S32x512))
  Prog.lift (.store hsM (Rect.unit (s := S32x512) ![0, 0] S32x512.size inb_S32x512_S32x512_0_0) v Finset.univ (View.stores_vmem h_S32x512 ((Memref.isWhole_whole _).storeExact_slice rfl _ packedbf16_S32x512_S32x512_0_0) (fun _ => rfl)) (.inl rfl))

/-- The summed rows written to this device's own rows of the gathered activation. -/
def putHf (c : Dev nD) (v : FVec F S32x512 .bf16) : Prog (Eff F) PUnit := do
  let _ : Vec F S32x512 .bf16 ← Prog.lift (.load hfullM (Rect.unit (s := S256x512) (k0_off4 c) S32x512.size (k0_off4_inb c)).toLoadRect (View.loadsAt_vmem h_S32x512))
  Prog.lift (.store hfullM (Rect.unit (s := S256x512) (k0_off4 c) S32x512.size (k0_off4_inb c)) v Finset.univ (View.stores_vmem h_S32x512 ((Memref.isWhole_whole _).storeExact_slice rfl _ (k0_off4_packedbf16 c)) (fun _ => rfl)) (.inl rfl))

/-- The gathered activation. -/
def getHf : Prog (Eff F) (Vec F S256x512 .bf16) :=
  Prog.lift (.load hfullM (Rect.unit (s := S256x512) ![0, 0] S256x512.size inb_S256x512_S256x512_0_0).toLoadRect (View.loadsAt_vmem h_S256x512))

/-- The last product, written to the result. -/
def lastOp (h : Vec F S256x512 .bf16) (m0 m1 : Vec F S1x512x512 .bf16) : Prog (Eff F) PUnit := do
  let w : Vec F S512x256 .bf16 ← Prog.lift (.load o2M (Rect.unit (s := S512x256) ![0, 0] S512x256.size inb_S512x256_S512x256_0_0).toLoadRect (View.loadsAt_vmem h_S512x256))
  let _ : Vec F S256x256 .f32 ← Prog.lift (.load outM (Rect.unit (s := S256x256) ![0, 0] S256x256.size inb_S256x256_S256x256_0_0).toLoadRect (View.loadsAt_vmem h_S256x256))
  Prog.lift (.store outM (Rect.unit (s := S256x256) ![0, 0] S256x256.size inb_S256x256_S256x256_0_0) (k0_pay28 (k0_pay27 h m0) m1 w) Finset.univ (View.stores_vmem_bits_univ h_S256x256 rfl) (.inl rfl))

/-- The body on device `c`, its loops over the peers as loops. -/
def loopBody (c : Dev nD) : Prog (Eff F) PUnit :=
  run7 (signalOp barS c) do
  semWaitWord barS 7#32
  firstOp
  run7 (sendOp c false none) do
  weightsOp
  run7 (sendOp c false (some 0)) do
  run7 (sendOp c false (some 1)) do
  let v ← ownA c
  seq7 (takeA c) fun g => do
  putHs (k0_pay9 (accA v g) (g 6))
  run7 (sendOp c true none) do
  putHf c (k0_pay10 (k0_pay8 (accA v g) (g 6)))
  let v ← ownM c 0
  seq7 (takeM c 0) fun g => do
  putMs 0 (k0_pay17 (acc0 v g) (g 6))
  run7 (sendOp c true (some 0)) do
  putMf c 0 (k0_pay18 (k0_pay16 (acc0 v g) (g 6)))
  let v ← ownM c 1
  seq7 (takeM c 1) fun g => do
  putMs 1 (k0_pay25 (acc1 v g) (g 6))
  run7 (sendOp c true (some 1)) do
  putMf c 1 (k0_pay26 (k0_pay24 (acc1 v g) (g 6)))
  run7 (waitOp c true none) do
  let h ← getHf
  run7 (waitOp c true (some 0)) do
  let m0 ← getMf 0
  run7 (waitOp c true (some 1)) do
  let m1 ← getMf 1
  lastOp h m0 m1
  run7 (signalOp endS c) do
  semWaitWord endS 7#32
  pure ⟨⟩

/-- The printed body is the loops: after it has read its device's number, which `c` is here. -/
theorem body_eq :
    (cc0_body xM (Memref.isWhole_whole _) w0M (Memref.isWhole_whole _) o0M (Memref.isWhole_whole _) w1M (Memref.isWhole_whole _)
      o1M (Memref.isWhole_whole _) w2M (Memref.isWhole_whole _) o2M (Memref.isWhole_whole _) outM (Memref.isWhole_whole _)
      partM (Memref.isWhole_whole _) hsM (Memref.isWhole_whole _) hfullM (Memref.isWhole_whole _) arecvM (Memref.isWhole_whole _)
      mbufM (Memref.isWhole_whole _) msM (Memref.isWhole_whole _) mrecvM (Memref.isWhole_whole _) mfullM (Memref.isWhole_whole _)
      cc0_scratch8 cc0_scratch9 cc0_scratch10 cc0_scratch11 cc0_scratch12 cc0_scratch13 cc0_scratch14 cc0_scratch15 cc0_scoped0 : Prog (Eff F) PUnit)
      = Prog.op .deviceId fun c => loopBody (F := F) c := by
  rw [cc0_body_eq_skeleton]
  rfl

end Cert.Mesh

end
-- ==== Proof.Own.lean ====
/-
# Owning parts of a memref

A memref owned at what it reads: as a points-to, cut along rectangles, dealt into shares, squeezed, loaded and stored —
the forms the body's run uses. Nothing here is about one kernel.
-/
module

public import Idealize.ShloMosaic.Lib.Pipeline.Launch
public import Idealize.ShloMosaic.Lib.Pipeline.Kit
public import Idealize.ShloMosaic.Lib.Tactic

@[expose] public section

noncomputable section

namespace Cert.Mesh

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

section Own

variable (c : Thread nD τ) {sp : Space} {sh : Shape} {e : EltTy} (m : Memref sig c.2.kind sp sh e) (q : PosShare TreeShare)

/-- Owning a memref at `X` is the points-to of its elements, at any contents that read `X`. -/
theorem own_eq (X : sh.Idx → Val e) (g : m.view.ty.Contents Val) (hg : m.view.read Val g = X) :
    (owns c m q X : sProp 𝕄) = (m.view.loc c ↦[m.view.set]{q} g) := by
  have h₁ : (owns c m q X : sProp 𝕄) ⊢ (m.view.loc c ↦[m.view.set]{q} g) := by
    unfold owns
    iintro ⟨%f, %hf, H⟩
    have e : (m.view.loc c ↦[m.view.set]{q} f : sProp 𝕄) = m.view.loc c ↦[m.view.set]{q} g :=
      pointsTo_congr fun i hi => by
        obtain ⟨x, -, rfl⟩ := Finset.mem_map.mp hi
        have := congrFun (hf.trans hg.symm) x
        simp only [View.read] at this
        exact (cast_inj _).mp this
    rw [← e]
    iexact H
  exact equiv_iff.mp ⟨h₁, hg ▸ owns_intro c m q g⟩

variable [∀ e, Nonempty (Val e)]

/-- Some contents read `X`. -/
theorem reads_some (X : sh.Idx → Val e) : ∃ g : m.view.ty.Contents Val, m.view.read Val g = X :=
  ⟨m.view.write Val (fun _ => Classical.arbitrary _) X Finset.univ, View.read_write_univ _ _⟩

/-- A memref owned whole is owned at seven shares of it. -/
theorem own_deal (X : sh.Idx → Val e) :
    (owns c m q X : sProp 𝕄) = bigSep Finset.univ fun i : Fin 7 => owns c m (Transfers.dealOf q Finset.univ i) X := by
  obtain ⟨g, hg⟩ := reads_some c m X
  rw [own_eq c m q X g hg, Transfers.pointsTo_deal (Finset.univ : Finset (Fin 7)) ⟨0, Finset.mem_univ _⟩ q]
  exact bigSep_congr fun i _ => (own_eq c m _ X g hg).symm

/-- A squeezed memref is the memref, the contents re-indexed. -/
theorem own_squeeze (s' : Shape) (h : sh.Squeezes s') (X : s'.Idx → Val e) :
    (owns c (m.squeeze s' h) q X : sProp 𝕄) = owns c m q (fun j => X ((Shape.reshapeEquiv h.numel_eq).symm j)) := by
  obtain ⟨g, hg⟩ := reads_some c (m.squeeze s' h) X
  have hg' : m.view.read Val g = fun j => X ((Shape.reshapeEquiv h.numel_eq).symm j) := by
    funext j
    rw [← hg]
    show _ = m.view.read Val g (Shape.reshapeEquiv h.numel_eq _)
    rw [Equiv.apply_symm_apply]
  rw [own_eq c _ q X g hg, own_eq c m q _ g hg']
  have hs : (m.squeeze s' h).view.set = m.view.set := View.set_reshape (v := m.view) h.numel_eq
  rw [hs]

/-- Owning a memref's slice at `R` is owning its slices at pairwise disjoint rectangles that make up `R`. -/
theorem own_cut {T : Type} [Fintype T] [DecidableEq T] (r : T → Rect sh) (hr : ∀ t a, (r t).stride a = 1) (R : Rect sh) (hR : ∀ a, R.stride a = 1)
    (hd : ∀ t t', t ≠ t' → Disjoint (r t).set (r t').set) (hcov : ∀ i, i ∈ R.set ↔ ∃ t, i ∈ (r t).set) (X : sh.Idx → Val e) :
    (owns c (m.slice R hR) q (fun j => X (R.emb j)) : sProp 𝕄)
      = bigSep Finset.univ fun t => owns c (m.slice (r t) (hr t)) q (fun j => X ((r t).emb j)) := by
  obtain ⟨g, rfl⟩ := reads_some c m X
  rw [owns_slice_read, bigSep_congr fun t _ => owns_slice_read c m q (r t) (hr t) g]
  have hset : (m.view.slice R).set = (Finset.univ : Finset T).biUnion fun t => (m.view.slice (r t)).set := by
    ext i
    simp only [View.set_slice, Finset.mem_biUnion, Finset.mem_univ, true_and, Finset.mem_map, hcov]
    exact ⟨fun ⟨x, ⟨t, ht⟩, hx⟩ => ⟨t, x, ht, hx⟩, fun ⟨t, x, ht, hx⟩ => ⟨x, ⟨t, ht⟩, hx⟩⟩
  rw [hset]
  exact pointsTo_biUnion _ _ fun t _ t' _ htt => by
    rw [View.set_slice, View.set_slice]; exact (Finset.disjoint_map _).mpr (hd t t' htt)

/-- A memref is its slice at a rectangle that is all of its shape. -/
theorem own_full (R : Rect sh) (hR : ∀ a, R.stride a = 1) (hcov : ∀ i, i ∈ R.set) (X : sh.Idx → Val e) :
    (owns c (m.slice R hR) q (fun j => X (R.emb j)) : sProp 𝕄) = owns c m q X := by
  obtain ⟨g, rfl⟩ := reads_some c m X
  rw [owns_slice_read, own_eq c m q _ g rfl]
  have hset : (m.view.slice R).set = m.view.set := by
    rw [View.set_slice, Finset.eq_univ_iff_forall.mpr hcov]; rfl
  rw [hset]

/-- A memref is its slices at pairwise disjoint rectangles that cover its shape. -/
theorem own_cut_whole {T : Type} [Fintype T] [DecidableEq T] (r : T → Rect sh) (hr : ∀ t a, (r t).stride a = 1)
    (hd : ∀ t t', t ≠ t' → Disjoint (r t).set (r t').set) (hcov : ∀ i, ∃ t, i ∈ (r t).set) (X : sh.Idx → Val e) :
    (owns c m q X : sProp 𝕄)
      = bigSep Finset.univ fun t => owns c (m.slice (r t) (hr t)) q (fun j => X ((r t).emb j)) := by
  rw [← own_full c m q (Rect.whole sh) (fun _ => rfl) (fun i => by rw [Rect.set_whole]; exact Finset.mem_univ i) X]
  exact own_cut c m q r hr _ _ hd (fun i => ⟨fun _ => hcov i, fun _ => by rw [Rect.set_whole]; exact Finset.mem_univ i⟩) X

/-- Slices that cover a memref, owned at any contents, are the memref owned at some contents. -/
theorem own_glue {T : Type} [Fintype T] [DecidableEq T] (r : T → Rect sh) (hr : ∀ t a, (r t).stride a = 1)
    (hd : ∀ t t', t ≠ t' → Disjoint (r t).set (r t').set) (hcov : ∀ i, ∃ t, i ∈ (r t).set) :
    (bigSep Finset.univ fun t => iprop(∃ v, owns c (m.slice (r t) (hr t)) q v)) ⊢ (iprop(∃ X, owns c m q X) : sProp 𝕄) := by
  refine (bigSep_exists_pi _ _).trans ?_
  iintro ⟨%v, H⟩
  have hX : ∃ X : sh.Idx → Val e, ∀ t j, X ((r t).emb j) = v t j := by
    classical
    refine ⟨fun i => if h : ∃ (t : T) (j : (r t).shape.Idx), (r t).emb j = i then v h.choose h.choose_spec.choose else Classical.arbitrary _, fun t j => ?_⟩
    have h : ∃ (t' : T) (j' : (r t').shape.Idx), (r t').emb j' = (r t).emb j := ⟨t, j, rfl⟩
    refine (dif_pos h).trans ?_
    have hs := h.choose_spec.choose_spec
    have ht : h.choose = t := by
      by_contra hne
      have hin : ∀ t' (j' : (r t').shape.Idx), (r t').emb j' ∈ (r t').set := fun t' j' => by
        rw [← Rect.map_emb_univ]; exact Finset.mem_map_of_mem _ (Finset.mem_univ _)
      have h₁ := hin h.choose h.choose_spec.choose
      rw [hs] at h₁
      exact Finset.disjoint_left.mp (hd _ _ hne) h₁ (hin t j)
    have key : ∀ (t' : T) (j' : (r t').shape.Idx), t' = t → (r t').emb j' = (r t).emb j → v t' j' = v t j := by
      rintro t' j' rfl he; rw [(r t').emb.injective he]
    exact key _ _ ht hs
  obtain ⟨X, hX⟩ := hX
  iexists X
  rw [own_cut_whole c m q r hr hd hcov X]
  simp only [hX]
  iexact H

end Own

section Step

variable {Λ : Labels} [Preorder Lvl] {defs : Defs nD τ sig Val Λ} (𝒱 : Variants) (c : Thread nD τ)
  (bd : Option 𝒱.V) (E : Set Name)
variable {s : Shape} {e : EltTy} {α : Type}

/-- A load through a rectangle, the memref's slice there owned: it returns what the slice reads. -/
theorem own_load {Q : α → sProp 𝕄} {cs : CoreSpace} (m : Memref sig c.2.kind cs s e) (r : Rect s) (hr : ∀ a, r.stride a = 1) {hl : m.view.LoadsAt r}
    {k : (r.shape.Idx → Val e) → Prog (TpuEff nD τ sig Val Λ c.2) α} (q : PosShare TreeShare) (X : r.shape.Idx → Val e) :
    (owns c (m.slice r hr) q X : sProp 𝕄)
      ⊢ iprop((owns c (m.slice r hr) q X -∗ wp frame (wpE defs 𝒱 c bd) E (k X) Q)
        -∗ wp frame (wpE defs 𝒱 c bd) E (.op (.load m r.toLoadRect hl) k) Q) := by
  iintro H Hk
  unfold owns
  icases H with ⟨%f, %hf, H⟩
  iapply (wp_load_rect 𝒱 c bd E (m := m) (r := r) (S := (m.access r).set) (Finset.Subset.refl _)) $$ H
  iintro H
  rw [show (m.access r).read Val f = X from hf]
  iapply Hk
  iexists f
  isplitr
  · ipureintro; exact hf
  iexact H

/-- A store of all of a rectangle, the memref's slice there owned: the slice then reads what was stored. -/
theorem own_store {Q : α → sProp 𝕄} {cs : CoreSpace} (m : Memref sig c.2.kind cs s e) (r : Rect s) (hr : ∀ a, r.stride a = 1)
    {w : r.shape.Idx → Val e} {hx : (m.access r).Stores Finset.univ} {hm : (Finset.univ : Finset r.shape.Idx) = Finset.univ ∨ ∀ a, r.stride a = 1}
    {k : PUnit → Prog (TpuEff nD τ sig Val Λ c.2) α} :
    (iprop(∃ X, owns c (m.slice r hr) fullShare X) : sProp 𝕄)
      ⊢ iprop((owns c (m.slice r hr) fullShare w -∗ wp frame (wpE defs 𝒱 c bd) E (k ⟨⟩) Q)
        -∗ wp frame (wpE defs 𝒱 c bd) E (.op (.store m r w Finset.univ hx hm) k) Q) := by
  iintro ⟨%X, H⟩ Hk
  unfold owns
  icases H with ⟨%f, %hf, H⟩
  iapply (wp_store 𝒱 c bd E (m := m) (r := r) (S := (m.access r).set) (Finset.Subset.refl _)) $$ H
  iintro H
  iapply Hk
  iexists _
  isplitr
  rotate_left
  · iexact H
  ipureintro
  exact View.read_write_univ _ _

end Step

end Cert.Mesh
-- ==== Proof.Geom.lean ====
/-
# The regions the transfers name, and what they hold

The rectangles of the eight buffers the peers exchange: rows of the first product, rows of a plane of the products of
weight blocks, landing slots. Each transfer's source and destination is one of them, and each buffer is the disjoint
union of them. Then the values: what each region holds once written, as a function of the devices' blocks.
-/
module

public import proofs.«01_k».proof.Proof.Loop
public import proofs.«01_k».proof.Proof.Own

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Facts

/-! ## The peers of a device -/

/-- A peer's peer in the same turn is the device itself. -/
theorem peer_peer : ∀ (c : Dev nD) (i : Fin 7), peer (peer c i) i = c := by decide +kernel
/-- No device is its own peer. -/
theorem peer_ne : ∀ (c : Dev nD) (i : Fin 7), peer c i ≠ c := by decide +kernel
/-- Different turns address different devices. -/
theorem peer_inj : ∀ (c : Dev nD) (i j : Fin 7), peer c i = peer c j → i = j := by decide +kernel
/-- The devices are one device and its seven peers. -/
theorem univ_peer : ∀ c : Dev nD, (Finset.univ : Finset (Dev nD)) = insert c (Finset.univ.map ⟨peer c, fun i j => peer_inj c i j⟩) := by
  decide +kernel

/-- A conjunction over the devices is device `c`'s part and the parts of its seven peers. -/
theorem bigSep_peer {M : Type} [URA M] (c : Dev nD) (Φ : Dev nD → sProp M) :
    bigSep Finset.univ Φ = iprop(Φ c ∗ bigSep Finset.univ fun i => Φ (peer c i)) := by
  rw [univ_peer c, bigSep_insert (by
    simp only [Finset.mem_map, Finset.mem_univ, true_and, Function.Embedding.coeFn_mk, not_exists]
    exact fun i => peer_ne c i), bigSep_map]
  rfl

/-! ## The rectangles -/

/-- Each device's rows lie in the first product. -/
theorem inbRowsA (t : Dev nD) : ∀ a, (![32 * t.val, 0] : Fin 2 → Nat) a + S32x512.size a ≤ S256x512.size a := by revert t; decide
/-- Each device's rows lie in a plane. -/
theorem inbRowsM (p : Fin 2) (t : Dev nD) : ∀ a, (![p.val, 64 * t.val, 0] : Fin 3 → Nat) a + S1x64x512.size a ≤ S2x512x512.size a := by
  revert p t; decide

/-- Device `t`'s 32 rows of the first product. -/
abbrev rowsA (t : Dev nD) : Rect S256x512 := Rect.unit (s := S256x512) ![32 * t.val, 0] S32x512.size (inbRowsA t)
/-- Device `t`'s 64 rows of plane `p`. -/
abbrev rowsM (p : Fin 2) (t : Dev nD) : Rect S2x512x512 := Rect.unit (s := S2x512x512) ![p.val, 64 * t.val, 0] S1x64x512.size (inbRowsM p t)
/-- Plane `p`. -/
abbrev planeM (p : Fin 2) : Rect S2x512x512 := Rect.unit (s := S2x512x512) ![p.val, 0, 0] S1x512x512.size (inbMf p)
/-- Landing slot `i` of the first scatter. -/
abbrev slotA (i : Fin 7) : Rect S7x32x512 := Rect.unit (s := S7x32x512) ![i.val, 0, 0] S1x32x512.size (inbA i)
/-- Landing slot `i` of the scatter of plane `p`. -/
abbrev slotB (p : Fin 2) (i : Fin 7) : Rect S14x64x512 := Rect.unit (s := S14x64x512) ![7 * p.val + i.val, 0, 0] S1x64x512.size (inbB p i)
/-- The summed rows of plane `p`. -/
abbrev planeS (p : Fin 2) : Rect S2x64x512 := Rect.unit (s := S2x64x512) ![p.val, 0, 0] S1x64x512.size (inbMs p)

/-- The rectangles have stride one. -/
theorem one_stride {s : Shape} {off size : Fin s.rank → Nat} {inb} : ∀ a, (Rect.unit (s := s) off size inb).stride a = 1 := fun _ => rfl

/-- Different devices' rows of the first product are disjoint. -/
theorem rowsA_disj (t t' : Dev nD) (h : t ≠ t') : Disjoint (rowsA t).set (rowsA t').set := by
  refine Rect.unit_disjoint (0 : Fin 2) ?_
  have := Fin.val_ne_of_ne h
  show 32 * t.val + 32 ≤ 32 * t'.val ∨ 32 * t'.val + 32 ≤ 32 * t.val
  omega
/-- The devices' rows cover the first product. -/
theorem rowsA_cov (i : S256x512.Idx) : ∃ t, i ∈ (rowsA t).set := by
  have h0 : (i 0 : Nat) < 256 := (i 0).isLt
  have h1 : (i 1 : Nat) < 512 := (i 1).isLt
  refine ⟨⟨(i 0 : Nat) / 32, by show _ < 8; omega⟩, Rect.mem_set_unit.mpr (Fin.forall_fin_two.mpr ⟨?_, ?_⟩)⟩
  · show 32 * ((i 0 : Nat) / 32) ≤ (i 0 : Nat) ∧ (i 0 : Nat) < 32 * ((i 0 : Nat) / 32) + 32
    omega
  · exact ⟨Nat.zero_le _, by show (i 1 : Nat) < 0 + 512; omega⟩

/-- Different devices' rows of a plane are disjoint. -/
theorem rowsM_disj (p : Fin 2) (t t' : Dev nD) (h : t ≠ t') : Disjoint (rowsM p t).set (rowsM p t').set := by
  refine Rect.unit_disjoint (1 : Fin 3) ?_
  have := Fin.val_ne_of_ne h
  show 64 * t.val + 64 ≤ 64 * t'.val ∨ 64 * t'.val + 64 ≤ 64 * t.val
  omega
/-- The devices' rows of a plane make up the plane. -/
theorem rowsM_cov (p : Fin 2) (i : S2x512x512.Idx) : i ∈ (planeM p).set ↔ ∃ t, i ∈ (rowsM p t).set := by
  have h1 : (i 1 : Nat) < 512 := (i 1).isLt
  have h2 : (i 2 : Nat) < 512 := (i 2).isLt
  simp only [Rect.mem_set_unit]
  constructor
  · intro h
    refine ⟨⟨(i 1 : Nat) / 64, by show _ < 8; omega⟩, fun a => ?_⟩
    fin_cases a
    · exact h 0
    · show 64 * ((i 1 : Nat) / 64) ≤ (i 1 : Nat) ∧ (i 1 : Nat) < 64 * ((i 1 : Nat) / 64) + 64
      omega
    · exact h 2
  · rintro ⟨t, h⟩ a
    fin_cases a
    · exact h 0
    · exact ⟨Nat.zero_le _, by show (i 1 : Nat) < 0 + 512; omega⟩
    · exact h 2

/-- The two planes are disjoint. -/
theorem planeM_disj (p p' : Fin 2) (h : p ≠ p') : Disjoint (planeM p).set (planeM p').set := by
  refine Rect.unit_disjoint (0 : Fin 3) ?_
  have := Fin.val_ne_of_ne h
  show p.val + 1 ≤ p'.val ∨ p'.val + 1 ≤ p.val
  omega
/-- The two planes cover their buffer. -/
theorem planeM_cov (i : S2x512x512.Idx) : ∃ p, i ∈ (planeM p).set := by
  have h1 : (i 1 : Nat) < 512 := (i 1).isLt
  have h2 : (i 2 : Nat) < 512 := (i 2).isLt
  refine ⟨i 0, Rect.mem_set_unit.mpr fun a => ?_⟩
  fin_cases a
  · show (i 0 : Nat) ≤ (i 0 : Nat) ∧ (i 0 : Nat) < (i 0 : Nat) + 1
    omega
  · exact ⟨Nat.zero_le _, by show (i 1 : Nat) < 0 + 512; omega⟩
  · exact ⟨Nat.zero_le _, by show (i 2 : Nat) < 0 + 512; omega⟩

/-- The summed rows of the two planes are disjoint. -/
theorem planeS_disj (p p' : Fin 2) (h : p ≠ p') : Disjoint (planeS p).set (planeS p').set := by
  refine Rect.unit_disjoint (0 : Fin 3) ?_
  have := Fin.val_ne_of_ne h
  show p.val + 1 ≤ p'.val ∨ p'.val + 1 ≤ p.val
  omega
/-- The summed rows of the two planes cover their buffer. -/
theorem planeS_cov (i : S2x64x512.Idx) : ∃ p, i ∈ (planeS p).set := by
  have h1 : (i 1 : Nat) < 64 := (i 1).isLt
  have h2 : (i 2 : Nat) < 512 := (i 2).isLt
  refine ⟨i 0, Rect.mem_set_unit.mpr fun a => ?_⟩
  fin_cases a
  · show (i 0 : Nat) ≤ (i 0 : Nat) ∧ (i 0 : Nat) < (i 0 : Nat) + 1
    omega
  · exact ⟨Nat.zero_le _, by show (i 1 : Nat) < 0 + 64; omega⟩
  · exact ⟨Nat.zero_le _, by show (i 2 : Nat) < 0 + 512; omega⟩

/-- The landing slots of the first scatter are disjoint. -/
theorem slotA_disj (i i' : Fin 7) (h : i ≠ i') : Disjoint (slotA i).set (slotA i').set := by
  refine Rect.unit_disjoint (0 : Fin 3) ?_
  have := Fin.val_ne_of_ne h
  show i.val + 1 ≤ i'.val ∨ i'.val + 1 ≤ i.val
  omega
/-- The landing slots of the first scatter cover their buffer. -/
theorem slotA_cov (i : S7x32x512.Idx) : ∃ t, i ∈ (slotA t).set := by
  have h1 : (i 1 : Nat) < 32 := (i 1).isLt
  have h2 : (i 2 : Nat) < 512 := (i 2).isLt
  refine ⟨i 0, Rect.mem_set_unit.mpr fun a => ?_⟩
  fin_cases a
  · show (i 0 : Nat) ≤ (i 0 : Nat) ∧ (i 0 : Nat) < (i 0 : Nat) + 1
    omega
  · exact ⟨Nat.zero_le _, by show (i 1 : Nat) < 0 + 32; omega⟩
  · exact ⟨Nat.zero_le _, by show (i 2 : Nat) < 0 + 512; omega⟩

/-- The landing slots of the planes' scatters are disjoint. -/
theorem slotB_disj (t t' : Fin 2 × Fin 7) (h : t ≠ t') : Disjoint (slotB t.1 t.2).set (slotB t'.1 t'.2).set := by
  refine Rect.unit_disjoint (0 : Fin 3) ?_
  obtain ⟨p, i⟩ := t
  obtain ⟨p', i'⟩ := t'
  show 7 * p.val + i.val + 1 ≤ 7 * p'.val + i'.val ∨ 7 * p'.val + i'.val + 1 ≤ 7 * p.val + i.val
  have hne : ¬ (p.val = p'.val ∧ i.val = i'.val) := fun ⟨hp, hi⟩ => h (Prod.ext (Fin.ext hp) (Fin.ext hi))
  omega
/-- The landing slots of the planes' scatters cover their buffer. -/
theorem slotB_cov (i : S14x64x512.Idx) : ∃ t : Fin 2 × Fin 7, i ∈ (slotB t.1 t.2).set := by
  have h0 : (i 0 : Nat) < 14 := (i 0).isLt
  have h1 : (i 1 : Nat) < 64 := (i 1).isLt
  have h2 : (i 2 : Nat) < 512 := (i 2).isLt
  refine ⟨(⟨(i 0 : Nat) / 7, by omega⟩, ⟨(i 0 : Nat) % 7, by omega⟩), Rect.mem_set_unit.mpr fun a => ?_⟩
  fin_cases a
  · show 7 * ((i 0 : Nat) / 7) + (i 0 : Nat) % 7 ≤ (i 0 : Nat) ∧ (i 0 : Nat) < 7 * ((i 0 : Nat) / 7) + (i 0 : Nat) % 7 + 1
    omega
  · exact ⟨Nat.zero_le _, by show (i 1 : Nat) < 0 + 64; omega⟩
  · exact ⟨Nat.zero_le _, by show (i 2 : Nat) < 0 + 512; omega⟩

/-- A rectangle of the whole shape at offset zero has every index. -/
theorem whole_cov {s : Shape} {off : Fin s.rank → Nat} {inb} (h : ∀ a, off a = 0) (i : s.Idx) :
    i ∈ (Rect.unit (s := s) off s.size inb).set :=
  Rect.mem_set_unit.mpr fun a => by rw [h a]; exact ⟨Nat.zero_le _, by rw [Nat.zero_add]; exact (i a).isLt⟩

/-! ## The transfers' ends are those rectangles -/

/-- A slice at equal offsets is the same slice. -/
theorem slice_off {s : Shape} {e : EltTy} {sp : Space} (m : Memref sig .tc sp s e) {off off' size : Fin s.rank → Nat} (h : off = off') (inb inb') :
    m.slice (Rect.unit off size inb) (fun _ => rfl) = m.slice (Rect.unit off' size inb') (fun _ => rfl) := by
  subst h; rfl

/-- The first scatter's rows start at the peer's rows. -/
theorem off1_eq : ∀ (c : Dev nD) (i : Fin 7), k0_off1 c (word i) = ![32 * (peer c i).val, 0] := by decide +kernel
/-- A plane's scattered rows start at the peer's rows. -/
theorem offM_eq : ∀ (c : Dev nD) (p : Fin 2) (i : Fin 7), offM c p (word i) = ![p.val, 64 * (peer c i).val, 0] := by decide +kernel
/-- A device's own rows of a plane start at 64 times its number. -/
theorem offO_eq : ∀ (c : Dev nD) (p : Fin 2), offO c p = ![p.val, 64 * c.val, 0] := by decide +kernel
/-- A device's own rows of the first product start at 32 times its number. -/
theorem off4_eq : ∀ (c : Dev nD), k0_off4 c = ![32 * c.val, 0] := by decide +kernel
/-- The activation's gather lands at the sender's rows. -/
theorem off5_eq : ∀ (c : Dev nD), k0_off5 c = ![32 * c.val, 0] := by decide +kernel

/-- The first scatter reads the peer's rows of the product. -/
theorem src_scatA (c : Dev nD) (i : Fin 7) : src c false none i = partM.slice (rowsA (peer c i)) one_stride :=
  slice_off partM (off1_eq c i) _ _
/-- A plane's scatter reads the peer's rows of the plane. -/
theorem src_scatM (c : Dev nD) (p : Fin 2) (i : Fin 7) :
    src c false (some p) i = (mbufM.slice (rowsM p (peer c i)) one_stride).squeeze S64x512 squeezes_S1x64x512_S64x512 :=
  congrArg (fun M : Memref sig .tc .vmem S1x64x512 .bf16 => M.squeeze S64x512 squeezes_S1x64x512_S64x512) (slice_off mbufM (offM_eq c p i) _ _)
/-- The activation's gather lands in the sender's rows. -/
theorem dst_gathA (c : Dev nD) (i : Fin 7) : dst c true none i = hfullM.slice (rowsA c) one_stride :=
  slice_off hfullM (off5_eq c) _ _
/-- A plane's gather lands in the sender's rows of the plane. -/
theorem dst_gathM (c : Dev nD) (p : Fin 2) (i : Fin 7) :
    dst c true (some p) i = (mfullM.slice (rowsM p c) one_stride).squeeze S64x512 squeezes_S1x64x512_S64x512 :=
  congrArg (fun M : Memref sig .tc .vmem S1x64x512 .bf16 => M.squeeze S64x512 squeezes_S1x64x512_S64x512) (slice_off mfullM (offO_eq c p) _ _)

/-! ## The values -/

variable {F : FTy → Type} [FloatOps F]

/-- Every element type has an element. -/
instance nonemptyElt : ∀ e, Nonempty (Elt F e)
  | .i1 => ⟨(0 : BitVec 1)⟩ | .i4 => ⟨(0 : BitVec 4)⟩ | .i8 => ⟨(0 : BitVec 8)⟩ | .i16 => ⟨(0 : BitVec 16)⟩
  | .i32 => ⟨(0 : BitVec 32)⟩ | .i64 => ⟨(0 : BitVec 64)⟩
  | .fp8e4m3 => ⟨(FloatOps.ofBits (F := F) _ 0 : F .fp8e4m3)⟩ | .fp8e5m2 => ⟨(FloatOps.ofBits (F := F) _ 0 : F .fp8e5m2)⟩
  | .bf16 => ⟨(FloatOps.ofBits (F := F) _ 0 : F .bf16)⟩ | .f16 => ⟨(FloatOps.ofBits (F := F) _ 0 : F .f16)⟩
  | .f32 => ⟨(FloatOps.ofBits (F := F) _ 0 : F .f32)⟩

/-- A device's blocks of the seven arguments. -/
structure Blocks (F : FTy → Type) where
  /-- the block of `x` -/
  x : Vec F S256x256 .bf16
  /-- the block of `Win0` -/
  w0 : Vec F S256x512 .bf16
  /-- the block of `Wout0` -/
  o0 : Vec F S512x256 .bf16
  /-- the block of `Win1` -/
  w1 : Vec F S256x512 .bf16
  /-- the block of `Wout1` -/
  o1 : Vec F S512x256 .bf16
  /-- the block of `Win2` -/
  w2 : Vec F S256x512 .bf16
  /-- the block of `Wout2` -/
  o2 : Vec F S512x256 .bf16

/-- Rows of one plane seen as a matrix: the leading axis of extent one dropped. -/
def drop (X : S1x64x512.Idx → Elt F .bf16) : S64x512.Idx → Elt F .bf16 :=
  fun j => X (Shape.reshapeEquiv squeezes_S1x64x512_S64x512.numel_eq j)
/-- A matrix seen as rows of one plane. -/
def lift64 (X : S64x512.Idx → Elt F .bf16) : S1x64x512.Idx → Elt F .bf16 :=
  fun j => X ((Shape.reshapeEquiv squeezes_S1x64x512_S64x512.numel_eq).symm j)
/-- A matrix seen as one landing slot. -/
def lift32 (X : S32x512.Idx → Elt F .bf16) : S1x32x512.Idx → Elt F .bf16 :=
  fun j => X ((Shape.reshapeEquiv squeezes_S1x32x512_S32x512.numel_eq).symm j)

/-- Dropping the leading axis and putting it back changes nothing. -/
theorem lift64_drop (X : S1x64x512.Idx → Elt F .bf16) : lift64 (drop X) = X := by
  funext j; simp only [lift64, drop, Equiv.apply_symm_apply]

variable (B : Dev nD → Blocks F)

/-- Device `d`'s part of the first product. -/
def part (d : Dev nD) : Vec F S256x512 .bf16 := k0_pay1 (B d).x (B d).w0
/-- Device `d`'s part of plane `p`: a product of its blocks of two weight matrices. -/
def plane (d : Dev nD) : Fin 2 → Vec F S1x512x512 .bf16
  | 0 => k0_pay2 (B d).o0 (B d).w1
  | 1 => k0_pay3 (B d).o1 (B d).w2
/-- An index into one plane, from an index into the two. -/
def inPlane (i : S2x512x512.Idx) : S1x512x512.Idx
  | 0 => ⟨0, by decide⟩
  | 1 => i 1
  | 2 => i 2
/-- Device `d`'s two planes. -/
def planes (d : Dev nD) : Vec F S2x512x512 .bf16 := fun i => plane B d (i 0) (inPlane i)

/-- Device `d`'s own rows of the first product. -/
def vA (d : Dev nD) : Vec F S32x512 .bf16 := fun j => part B d ((rowsA d).emb j)
/-- What lands at device `d` in turn `i` of the first scatter. -/
def gA (d : Dev nD) (i : Fin 7) : Vec F S1x32x512 .bf16 := lift32 fun j => part B (peer d i) ((rowsA (peer (peer d i) i)).emb j)
/-- Device `d`'s own rows of plane `p`. -/
def vM (d : Dev nD) (p : Fin 2) : Vec F S1x64x512 .bf16 := fun j => planes B d ((rowsM p d).emb j)
/-- What lands at device `d` in turn `i` of the scatter of plane `p`. -/
def gM (d : Dev nD) (p : Fin 2) (i : Fin 7) : Vec F S1x64x512 .bf16 :=
  lift64 (drop fun j => planes B (peer d i) ((rowsM p (peer (peer d i) i)).emb j))
/-- Device `d`'s rows of the first activation. -/
def hs (d : Dev nD) : Vec F S32x512 .bf16 := k0_pay9 (accA (vA B d) (gA B d)) (gA B d 6)
/-- Device `d`'s rows of plane `p` summed over the devices. -/
def ms (d : Dev nD) : Fin 2 → Vec F S1x64x512 .bf16
  | 0 => k0_pay17 (acc0 (vM B d 0) (gM B d 0)) (gM B d 0 6)
  | 1 => k0_pay25 (acc1 (vM B d 1) (gM B d 1)) (gM B d 1 6)

/-- What turn `i`'s transfer of device `d` carries. -/
def sv (d : Dev nD) : (g : Bool) → (o : Option (Fin 2)) → Fin 7 → (shp o).Idx → Elt F .bf16
  | false, none, i => fun j => part B d ((rowsA (peer d i)).emb j)
  | true, none, _ => hs B d
  | false, some p, i => drop fun j => planes B d ((rowsM p (peer d i)).emb j)
  | true, some p, _ => drop (ms B d p)

/-- The gathered activation. -/
def hAll : Vec F S256x512 .bf16 := fun i =>
  hs B ⟨(i 0 : Nat) / 32, by have h : (i 0 : Nat) < 256 := (i 0).isLt; show _ < 8; omega⟩ fun
    | 0 => ⟨(i 0 : Nat) % 32, Nat.mod_lt _ (by decide)⟩
    | 1 => i 1
/-- The gathered planes. -/
def mAll : Vec F S2x512x512 .bf16 := fun i =>
  ms B ⟨(i 1 : Nat) / 64, by have h : (i 1 : Nat) < 512 := (i 1).isLt; show _ < 8; omega⟩ (i 0) fun
    | 0 => ⟨0, by decide⟩
    | 1 => ⟨(i 1 : Nat) % 64, Nat.mod_lt _ (by decide)⟩
    | 2 => i 2
/-- The gathered plane `p`. -/
def mPlane (p : Fin 2) : Vec F S1x512x512 .bf16 := fun j => mAll B ((planeM p).emb j)

/-- Device `d`'s block of the result. -/
def result (d : Dev nD) : Vec F S256x256 .f32 := k0_pay28 (k0_pay27 (hAll B) (mPlane B 0)) (mPlane B 1) (B d).o2

/-- A device's rows of the gathered activation are that device's. -/
theorem hAll_rows (t : Dev nD) : (fun j => hAll B ((rowsA t).emb j)) = hs B t := by
  funext j
  have hj : (j 0 : Nat) < 32 := (j 0).isLt
  have e0 : (((rowsA t).emb j) 0 : Nat) = 32 * t.val + 1 * (j 0 : Nat) := rfl
  have e1 : (((rowsA t).emb j) 1 : Nat) = 0 + 1 * (j 1 : Nat) := rfl
  have key : ∀ (t' : Dev nD) (j' : S32x512.Idx), t' = t → j' = j → hs B t' j' = hs B t j := by rintro _ _ rfl rfl; rfl
  refine key _ _ (Fin.ext ?_) (funext fun a => ?_)
  · show (((rowsA t).emb j) 0 : Nat) / 32 = t.val; omega
  · fin_cases a
    · exact Fin.ext (by show (((rowsA t).emb j) 0 : Nat) % 32 = (j 0 : Nat); omega)
    · exact Fin.ext (by show (((rowsA t).emb j) 1 : Nat) = (j 1 : Nat); omega)

/-- A device's rows of a gathered plane are that device's. -/
theorem mAll_rows (p : Fin 2) (t : Dev nD) : (fun j => mAll B ((rowsM p t).emb j)) = ms B t p := by
  funext j
  have hj0 : (j 0 : Nat) < 1 := (j 0).isLt
  have hj : (j 1 : Nat) < 64 := (j 1).isLt
  have e0 : (((rowsM p t).emb j) 0 : Nat) = p.val + 1 * (j 0 : Nat) := rfl
  have e1 : (((rowsM p t).emb j) 1 : Nat) = 64 * t.val + 1 * (j 1 : Nat) := rfl
  have e2 : (((rowsM p t).emb j) 2 : Nat) = 0 + 1 * (j 2 : Nat) := rfl
  have key : ∀ (t' : Dev nD) (p' : Fin 2) (j' : S1x64x512.Idx), t' = t → p' = p → j' = j → ms B t' p' j' = ms B t p j := by
    rintro _ _ _ rfl rfl rfl; rfl
  refine key _ _ _ (Fin.ext ?_) (Fin.ext ?_) (funext fun a => ?_)
  · show (((rowsM p t).emb j) 1 : Nat) / 64 = t.val; omega
  · show (((rowsM p t).emb j) 0 : Nat) = p.val; omega
  · fin_cases a
    · exact Fin.ext (by show 0 = (j 0 : Nat); omega)
    · exact Fin.ext (by show (((rowsM p t).emb j) 1 : Nat) % 64 = (j 1 : Nat); omega)
    · exact Fin.ext (by show (((rowsM p t).emb j) 2 : Nat) = (j 2 : Nat); omega)

/-- Plane `p` of a device's two planes. -/
theorem planes_plane (d : Dev nD) (p : Fin 2) : (fun j => planes B d ((planeM p).emb j)) = plane B d p := by
  funext j
  have hj0 : (j 0 : Nat) < 1 := (j 0).isLt
  have e0 : (((planeM p).emb j) 0 : Nat) = p.val + 1 * (j 0 : Nat) := rfl
  have e1 : (((planeM p).emb j) 1 : Nat) = 0 + 1 * (j 1 : Nat) := rfl
  have e2 : (((planeM p).emb j) 2 : Nat) = 0 + 1 * (j 2 : Nat) := rfl
  have key : ∀ (p' : Fin 2) (j' : S1x512x512.Idx), p' = p → j' = j → plane B d p' j' = plane B d p j := by
    rintro _ _ rfl rfl; rfl
  refine key _ _ (Fin.ext ?_) (funext fun a => ?_)
  · show (((planeM p).emb j) 0 : Nat) = p.val; omega
  · fin_cases a
    · exact Fin.ext (by show 0 = (j 0 : Nat); omega)
    · exact Fin.ext (by show (((planeM p).emb j) 1 : Nat) = (j 1 : Nat); omega)
    · exact Fin.ext (by show (((planeM p).emb j) 2 : Nat) = (j 2 : Nat); omega)

/-- What is stored to the gathered activation's own rows is what the gather sends. -/
theorem hs_own (d : Dev nD) : k0_pay10 (k0_pay8 (accA (vA B d) (gA B d)) (gA B d 6)) = hs B d := rfl
/-- What is stored to the own rows of the gathered plane 0 is what the gather sends; -/
theorem ms_own0 (d : Dev nD) : k0_pay18 (k0_pay16 (acc0 (vM B d 0) (gM B d 0)) (gM B d 0 6)) = ms B d 0 := rfl
/-- likewise of plane 1. -/
theorem ms_own1 (d : Dev nD) : k0_pay26 (k0_pay24 (acc1 (vM B d 1) (gM B d 1)) (gM B d 1 6)) = ms B d 1 := rfl

end Cert.Mesh
-- ==== Proof.Sched.lean ====
/-
# The protocol

Every device owns 86 semaphore cells: the two handshakes' and, for each transfer kind and turn, the one its own transfer
pays when its source is read and the one its peer's transfer pays when it lands. Every cell has one round. A handshake's
round is one unit from each peer; at the entry handshake the unit of turn `d`'s peer hands over the regions of that
peer's buffers this device's transfers of turn `d` land in. A transfer's cell's round is that transfer's credit, and
hands over the region it read or wrote, at the values it carries.

Waits are ordered by levels: the entry handshake below the scatters' landings, those below the gathers' landings, those
below the exit handshake; a device waits at a level only while what it still owes is above it.
-/
module

public import proofs.«01_k».proof.Proof.Geom

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state: rounds whose duties are named by turns. -/
abbrev UB : Type := URounds (GSem nD τ sig) (Fin 7)
/-- All the ghost state: the pipeline's and the protocol's. -/
abbrev UU : Type := UR sig nD τ × UB

local notation "𝕄" => MT nD τ sig Unit (Elt F) ℕ UU ℕ

/-- Where the pipeline's ghost state lives. -/
abbrev EP : Emb (UR sig nD τ) (MT nD τ sig Unit (Elt F) ℕ UU ℕ) := embL
/-- Where the protocol's ghost state lives. -/
abbrev ER : Emb UB (MT nD τ sig Unit (Elt F) ℕ UU ℕ) := embR

/-! ## The cells -/

/-- A transfer kind: gather or scatter, and what it moves. -/
abbrev Kind' : Type := Bool × Option (Fin 2)
/-- A device's cells: the entry (`false`) and exit (`true`) handshake; per transfer kind and turn the source's (`false`)
    and the landing's (`true`). -/
abbrev Cx : Type := Bool ⊕ (Bool × Bool × Option (Fin 2) × Fin 7)

/-- The semaphore of a cell. -/
def csem : Cx → SemLoc sig
  | .inl false => .reg barS
  | .inl true => .reg endS
  | .inr (false, g, o, i) => .dma (semS g o i)
  | .inr (true, g, o, i) => .dma (semR g o i)

/-- Different cells are at different semaphores. -/
theorem csem_inj : Function.Injective csem := by
  intro x y h
  revert x y
  decide +kernel

/-- The cell of a semaphore. -/
def dec (s : SemLoc sig) : Option Cx := Function.partialInv csem s
/-- The cell of a cell's semaphore is the cell. -/
theorem dec_csem (x : Cx) : dec (csem x) = some x := Function.partialInv_left csem_inj x

/-- Device `c`'s cell `x`. -/
abbrev kcell (c : Dev nD) (x : Cx) : GSem nD τ sig := ((c : Thread nD τ), csem x)

/-- The cell a transfer's source pays. -/
abbrev sendX (k : Kind') (i : Fin 7) : Cx := .inr (false, k.1, k.2, i)
/-- The cell a transfer's landing pays. -/
abbrev recvX (k : Kind') (i : Fin 7) : Cx := .inr (true, k.1, k.2, i)

/-- A transfer's credit. -/
def N (o : Option (Fin 2)) : ℕ := RefSig.tileCredit (shp o) .bf16

/-- A transfer's source pays its credit, -/
theorem credit_src (c : Dev nD) : ∀ (g : Bool) (o : Option (Fin 2)) (i : Fin 7), (src c g o i).view.dmaCredit = N o
  | false, none, i => rfl
  | true, none, _ => rfl
  | false, some p, i => rfl
  | true, some p, _ => rfl
/-- and its landing pays the same. -/
theorem credit_dst (c : Dev nD) : ∀ (g : Bool) (o : Option (Fin 2)) (i : Fin 7), (dst c g o i).view.dmaCredit = N o
  | false, none, i => rfl
  | true, none, _ => rfl
  | false, some p, i => rfl
  | true, some p, _ => rfl
/-- A transfer's credit is positive. -/
theorem N_pos (o : Option (Fin 2)) : 0 < N o := by
  rw [← credit_src 0 true o 0]
  exact View.dmaCredit_pos _ (by rcases o with _ | p; exacts [(by decide : 0 < S32x512.numel), (by decide : 0 < S64x512.numel)])

/-! ## The schedule -/

variable (B : Dev nD → Blocks F)

/-- The share of its source a transfer reads: all of a scatter's, a seventh of a gather's. -/
def srcShare : Bool → Fin 7 → PosShare TreeShare
  | false, _ => fullShare
  | true, i => Transfers.dealOf fullShare Finset.univ i

/-- The region of device `e` that a transfer of device `c` lands in, at any contents. -/
def room (e c : Dev nD) (k : Kind') (i : Fin 7) : sProp 𝕄 := iprop(∃ v, owns (e : Thread nD τ) (dst c k.1 k.2 i) fullShare v)
/-- The share of its source a transfer of device `c` reads, at what it carries. -/
def sent (c : Dev nD) (k : Kind') (i : Fin 7) : sProp 𝕄 := owns (c : Thread nD τ) (src c k.1 k.2 i) (srcShare k.1 i) (sv B c k.1 k.2 i)
/-- The region of device `e` that turn `i`'s transfer of device `c` lands in, landed. -/
def landed (e c : Dev nD) (k : Kind') (i : Fin 7) : sProp 𝕄 := owns (e : Thread nD τ) (dst c k.1 k.2 i) fullShare (sv B c k.1 k.2 i)

/-- What device `c`'s cell hands over with duty `d`. -/
def pay (c : Dev nD) : Cx → Fin 7 → sProp 𝕄
  | .inl false, d => bigSep Finset.univ fun k : Kind' => room (peer c d) c k d
  | .inl true, _ => iprop(emp)
  | .inr (false, g, o, i), _ => sent B c (g, o) i
  | .inr (true, g, o, i), _ => landed B c (peer c i) (g, o) i

/-- What a cell hands over may be kept in an invariant. -/
instance pay_storable (c : Dev nD) : ∀ (x : Cx) (d : Fin 7), BI.Storable (upEmb : UEmb _ 𝕄) (pay B c x d)
  | .inl false, d => by unfold pay room; infer_instance
  | .inl true, _ => by unfold pay; infer_instance
  | .inr (false, g, o, i), _ => by unfold pay sent; infer_instance
  | .inr (true, g, o, i), _ => by unfold pay landed; infer_instance

/-- A cell's duties, by turn. -/
def dutiesOf : Cx → Finset (Fin 7)
  | .inl _ => Finset.univ
  | .inr _ => {0}
/-- The units of one duty of a cell. -/
def amountOf : Cx → ℕ
  | .inl _ => 1
  | .inr (_, _, o, _) => N o
/-- Every duty is of some units. -/
theorem amountOf_pos : ∀ x, 0 < amountOf x
  | .inl _ => Nat.one_pos
  | .inr (_, _, o, _) => N_pos o

/-- One round per cell. -/
def Rd : Rounds.Schedule (GSem nD τ sig) (Fin 7) 𝕄 where
  duties g r := if r = 0 ∧ g.1.2 = .tc then (dec g.2).elim ∅ dutiesOf else ∅
  unitless _ := False
  amount g _ _ := (dec g.2).elim 1 amountOf
  payload g _ d := (dec g.2).elim iprop(emp) fun x => pay B g.1.1 x d
  amount_pos g _ _ _ := by
    cases dec g.2 with
    | none => exact Nat.one_pos
    | some x => exact amountOf_pos x

/-- The schedule's payloads may be kept in an invariant. -/
instance Rd_payload_storable (g : GSem nD τ sig) (r : ℕ) (d : Fin 7) : BI.Storable (upEmb : UEmb _ 𝕄) ((Rd B).payload g r d) := by
  show BI.Storable upEmb ((dec g.2).elim iprop(emp) fun x => pay B g.1.1 x d)
  cases dec g.2 with
  | none => dsimp only [Option.elim]; infer_instance
  | some x => dsimp only [Option.elim]; infer_instance

/-- The duties of a cell's round. -/
theorem duties_eq (c : Dev nD) (x : Cx) : (Rd B).duties (kcell c x) 0 = dutiesOf x := by
  dsimp only [Rd]; rw [if_pos ⟨rfl, rfl⟩, dec_csem]; rfl
/-- There are no duties after the first round. -/
theorem duties_later (g : GSem nD τ sig) : ∀ r, 1 ≤ r → (Rd B).duties g r = ∅ :=
  fun r hr => by dsimp only [Rd]; rw [if_neg fun h => by omega]
/-- The units of a duty of a cell. -/
theorem amount_eq (c : Dev nD) (x : Cx) (d : Fin 7) : (Rd B).amount (kcell c x) 0 d = amountOf x := by
  dsimp only [Rd]; rw [dec_csem]; rfl
/-- What a duty of a cell hands over. -/
theorem payload_eq (c : Dev nD) (x : Cx) (d : Fin 7) : (Rd B).payload (kcell c x) 0 d = pay B c x d := by
  dsimp only [Rd]; rw [dec_csem]; rfl
/-- A handshake is waited for with seven units. -/
theorem expect_hand (c : Dev nD) (e : Bool) : (Rd B).expect (kcell c (.inl e)) 0 = 7 := by
  unfold Schedule.expect Schedule.amountOf
  rw [duties_eq, Finset.sum_congr rfl fun d _ => amount_eq B c _ d]
  rfl
/-- A transfer is waited for with its credit. -/
theorem expect_dma (c : Dev nD) (b : Bool) (k : Kind') (i : Fin 7) : (Rd B).expect (kcell c (.inr (b, k.1, k.2, i))) 0 = N k.2 := by
  unfold Schedule.expect Schedule.amountOf
  rw [duties_eq, Finset.sum_congr rfl fun d _ => amount_eq B c _ d]
  show Finset.sum {0} (fun _ => N k.2) = _
  rw [Finset.sum_singleton]
/-- A wait that ends a handshake takes all its duties hand over. -/
theorem rest_hand (c : Dev nD) (e : Bool) :
    bigSep ((Rd B).duties (kcell c (.inl e)) 0 \ ∅) (fun d => (Rd B).payload (kcell c (.inl e)) 0 d) = bigSep Finset.univ fun d => pay B c (.inl e) d := by
  rw [Finset.sdiff_empty, duties_eq]
  exact bigSep_congr fun d _ => payload_eq B c _ d
/-- A wait for a transfer takes what its one duty hands over. -/
theorem rest_dma (c : Dev nD) (b : Bool) (k : Kind') (i : Fin 7) :
    bigSep ((Rd B).duties (kcell c (.inr (b, k.1, k.2, i))) 0 \ ∅) (fun d => (Rd B).payload (kcell c (.inr (b, k.1, k.2, i))) 0 d)
      = pay B c (.inr (b, k.1, k.2, i)) 0 := by
  rw [Finset.sdiff_empty, duties_eq]
  show bigSep {0} _ = _
  rw [bigSep_singleton, payload_eq]

/-! ## Levels, and what each device owes at launch -/

/-- A cell's level. -/
def lvOf : Cx → ℕ
  | .inl false => 1
  | .inl true => 4
  | .inr (false, _, _, _) => 0
  | .inr (true, g, _, _) => if g then 3 else 2
/-- The level of a semaphore; every other semaphore is at 0. -/
def lv (g : GSem nD τ sig) (_ : Unit) : ℕ := (dec g.2).elim 0 lvOf
/-- The cores whose cells have a level. -/
def L (g : GSem nD τ sig) : Finset Unit := if g.1.2 = .tc then {()} else ∅

/-- Only TensorCores' cells have a level. -/
theorem L_of_ne (g : GSem nD τ sig) (h : g.1.2 ≠ .tc) : L g = ∅ := if_neg h
/-- A cell's semaphore is at the cell's level. -/
theorem lv_kcell (c : Dev nD) (x : Cx) (u : Unit) : lv (kcell c x) u = lvOf x := by unfold lv; rw [dec_csem]; rfl

/-- All that is owed is owed to TensorCores' cells above level `n`. -/
def Above (n : ℕ) (O : CellTallies nD τ sig Unit) : Prop := ∀ g u, 0 < O g u → g.1.2 = .tc ∧ n < lv g u

/-- Nothing owed is above every level. -/
theorem above_zero (n : ℕ) : Above n 0 := fun g u h => absurd h (Nat.lt_irrefl 0)
/-- Two debts above a level are so together. -/
theorem above_add {n : ℕ} {O O' : CellTallies nD τ sig Unit} (h : Above n O) (h' : Above n O') : Above n (O + O') := by
  intro g u hg
  rw [Pi.add_apply, Finsupp.add_apply] at hg
  rcases Nat.pos_of_ne_zero (fun e => by omega : O g u + O' g u ≠ 0) |> fun _ => (Nat.eq_zero_or_pos (O g u)) with h0 | h0
  · exact h' g u (by omega)
  · exact h g u h0
/-- A debt to one cell is above every level below the cell's. -/
theorem above_tally {n : ℕ} (c : Dev nD) (x : Cx) (k : ℕ) (h : n < lvOf x) : Above n (tallyAt (kcell c x) () k) := by
  intro g u hg
  rw [tallyAt_apply] at hg
  by_cases hh : g = kcell c x ∧ u = ()
  · rw [hh.1, lv_kcell]; exact ⟨rfl, h⟩
  · rw [if_neg hh] at hg; exact absurd hg (Nat.lt_irrefl 0)
/-- A debt above a level is above every lower one. -/
theorem above_mono {n n' : ℕ} {O : CellTallies nD τ sig Unit} (hn : n' ≤ n) (h : Above n O) : Above n' O :=
  fun g u hg => ⟨(h g u hg).1, lt_of_le_of_lt hn (h g u hg).2⟩

/-- A device may wait at a cell while all it owes is above it. -/
theorem may_wait (c : Dev nD) (s : SemLoc sig) (n : ℕ) (hs : lv ((c : Thread nD τ), s) () ≤ n) (O : CellTallies nD τ sig Unit) (h : Above n O) :
    (levAts L lv : sProp 𝕄) ⊢ MayWait (c : Thread nD τ) s () O :=
  MayOwe.of_cut (L := L) (lev := lv) n (fun p hp => by rw [Finset.mem_singleton.mp hp]; exact Finset.mem_singleton_self _)
    (fun g u hg => by show u ∈ L g; unfold L; rw [if_pos (h g u hg).1]; exact Finset.mem_singleton_self _)
    (fun p hp => by rw [Finset.mem_singleton.mp hp]; exact hs) (fun g u hg => (h g u hg).2)

/-- The turns, in order. -/
abbrev turns : List (Fin 7) := [0, 1, 2, 3, 4, 5, 6]
/-- What the turns of `l` owe. -/
def due (f : Fin 7 → CellTallies nD τ sig Unit) (l : List (Fin 7)) : CellTallies nD τ sig Unit := (l.map f).sum
/-- No turns owe nothing. -/
theorem due_nil (f : Fin 7 → CellTallies nD τ sig Unit) : due f [] = 0 := rfl
/-- A turn more owes that turn's more. -/
theorem due_cons (f : Fin 7 → CellTallies nD τ sig Unit) (i : Fin 7) (l : List (Fin 7)) : due f (i :: l) = due f l + f i := by
  unfold due; rw [List.map_cons, List.sum_cons, add_comm]
/-- Turns that each owe above a level do so together. -/
theorem above_due {n : ℕ} (f : Fin 7 → CellTallies nD τ sig Unit) (h : ∀ i, Above n (f i)) : ∀ l, Above n (due f l)
  | [] => above_zero n
  | i :: l => by rw [due_cons]; exact above_add (above_due f h l) (h i)

/-- Turn `i`'s unit at a handshake. -/
def oweH (c : Dev nD) (e : Bool) (i : Fin 7) : CellTallies nD τ sig Unit := tallyAt (kcell (peer c i) (.inl e)) () 1
/-- Turn `i`'s landing credit. -/
def oweR (c : Dev nD) (k : Kind') (i : Fin 7) : CellTallies nD τ sig Unit := tallyAt (kcell (peer c i) (recvX k i)) () (N k.2)

/-- What is owed after the last gather is sent. -/
def O6 (c : Dev nD) : CellTallies nD τ sig Unit := due (oweH c true) turns
/-- What is owed before the gather of plane 1 is sent. -/
def O5 (c : Dev nD) : CellTallies nD τ sig Unit := O6 c + due (oweR c (true, some 1)) turns
/-- What is owed before the gather of plane 0 is sent. -/
def O4 (c : Dev nD) : CellTallies nD τ sig Unit := O5 c + due (oweR c (true, some 0)) turns
/-- What is owed before the gather of the activation is sent. -/
def O3 (c : Dev nD) : CellTallies nD τ sig Unit := O4 c + due (oweR c (true, none)) turns
/-- What is owed before the scatter of plane 1 is sent. -/
def O2 (c : Dev nD) : CellTallies nD τ sig Unit := O3 c + due (oweR c (false, some 1)) turns
/-- What is owed before the scatter of plane 0 is sent. -/
def O1 (c : Dev nD) : CellTallies nD τ sig Unit := O2 c + due (oweR c (false, some 0)) turns
/-- What is owed before the first scatter is sent. -/
def O0 (c : Dev nD) : CellTallies nD τ sig Unit := O1 c + due (oweR c (false, none)) turns
/-- What device `c` owes at launch. -/
def owed (c : Dev nD) : CellTallies nD τ sig Unit := O0 c + due (oweH c false) turns

/-- The exit handshake is above the gathers' landings. -/
theorem above_O6 (c : Dev nD) : Above 3 (O6 c) := above_due _ (fun i => above_tally _ _ _ (by decide)) _
/-- A gather's landings are above the scatters'. -/
theorem above_gather (c : Dev nD) (o : Option (Fin 2)) : Above 2 (due (oweR c (true, o)) turns) :=
  above_due _ (fun i => above_tally _ _ _ (show 2 < 3 by decide)) _
/-- A scatter's landings are above the entry handshake. -/
theorem above_scatter (c : Dev nD) (o : Option (Fin 2)) : Above 1 (due (oweR c (false, o)) turns) :=
  above_due _ (fun i => above_tally _ _ _ (show 1 < 2 by decide)) _
/-- What is owed before the gather of plane 1 is above the scatters' landings, -/
theorem above_O5 (c : Dev nD) : Above 2 (O5 c) := above_add (above_mono (by decide) (above_O6 c)) (above_gather c _)
/-- before that of plane 0 too, -/
theorem above_O4 (c : Dev nD) : Above 2 (O4 c) := above_add (above_O5 c) (above_gather c _)
/-- and before that of the activation. -/
theorem above_O3 (c : Dev nD) : Above 2 (O3 c) := above_add (above_O4 c) (above_gather c _)
/-- What is owed after the entry handshake's signals is above that handshake. -/
theorem above_O0 (c : Dev nD) : Above 1 (O0 c) :=
  above_add (above_add (above_add (above_mono (by decide) (above_O3 c)) (above_scatter c _)) (above_scatter c _)) (above_scatter c _)
/-- All that is owed at launch is above level 0. -/
theorem above_owed (c : Dev nD) : Above 0 (owed c) :=
  above_add (above_mono (by decide) (above_O0 c)) (above_due _ (fun i => above_tally _ _ _ (by decide)) _)

/-! ## The ghost state a device starts from -/

/-- Every cell's invariant, and that every cell has reached its round. -/
def know (K : Dev nD × Cx → ℕ) : sProp 𝕄 :=
  bigSep Finset.univ fun x : Dev nD × Cx => iprop(cellInv ER (Rd B) (K x) (kcell x.1 x.2) ∗ reached ER (kcell x.1 x.2) 0)

/-- The invariants may be used any number of times. -/
instance know_persistent (K : Dev nD × Cx → ℕ) : BI.Persistent (know B K) := by unfold know; infer_instance

/-- One cell's invariant, of all. -/
theorem know_at (K : Dev nD × Cx → ℕ) (c : Dev nD) (x : Cx) :
    know B K ⊢ iprop(cellInv ER (Rd B) (K (c, x)) (kcell c x) ∗ reached ER (kcell c x) 0) :=
  by classical exact bigSep_elim (Finset.mem_univ (c, x))

/-- The tokens device `c` pays with when it sends kind `k`: its own cell's, its peer's. -/
def toks (c : Dev nD) (k : Kind') : sProp 𝕄 :=
  bigSep Finset.univ fun i => iprop(dutyTok ER (kcell c (sendX k i)) 0 (0 : Fin 7) ∗ dutyTok ER (kcell (peer c i) (recvX k i)) 0 (0 : Fin 7))
/-- What device `c` waits for kind `k` with: its positions at both cells, its credit at the landing's. -/
def posts (c : Dev nD) (k : Kind') : sProp 𝕄 :=
  bigSep Finset.univ fun i => iprop(atPos ER (kcell c (sendX k i)) 0 ∅ 0 ∗ atPos ER (kcell c (recvX k i)) 0 ∅ 0
    ∗ cred (tallyAt (kcell c (recvX k i)) () (N k.2)))
/-- A handshake's part: the tokens its seven units are paid with, the position and the credit it is waited for with. -/
def hand (c : Dev nD) (e : Bool) : sProp 𝕄 :=
  iprop((bigSep Finset.univ fun i => dutyTok ER (kcell (peer c i) (.inl e)) 0 i) ∗ atPos ER (kcell c (.inl e)) 0 ∅ 0
    ∗ cred (tallyAt (kcell c (.inl e)) () 7))
/-- What device `c`'s body starts from. -/
def start (c : Dev nD) : sProp 𝕄 :=
  iprop((∃ K, know B K) ∗ hand c false ∗ hand c true ∗ (bigSep Finset.univ fun k : Kind' => iprop(toks c k ∗ posts c k)) ∗ levAts L lv)

end Cert.Mesh
-- ==== Proof.Steps.lean ====
/-
# The turns of the loops

A loop over the peers, from what one turn of it does; then what one turn does: a handshake's signal, the issue of a
transfer, the two waits for it — each once, for every kind of transfer and every turn — and the wait that ends a
handshake.
-/
module

public import proofs.«01_k».proof.Proof.Sched

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The body runs without fuel. -/
abbrev 𝒱₀ : Variants := Variants.none

/-- Device `c`'s core runs `p` to a result of which `Q` holds. -/
abbrev Wp {α : Type} (c : Dev nD) (p : Prog (Eff F) α) (Q : α → sProp 𝕄) : sProp 𝕄 :=
  wp frame (wpE (defs₀ (F := F)) 𝒱₀ (c : Thread nD τ) none) Set.univ p Q

/-- What device `c`'s core owes, whatever it has waited for. -/
def OW (c : Dev nD) (O : CellTallies nD τ sig Unit) : sProp 𝕄 := iprop(∃ W, owes (c : Thread nD τ) O W)

/-- A run, then what its result allows. -/
theorem wp_then {α : Type} (c : Dev nD) (p : Prog (Eff F) α) (X : sProp 𝕄) (Q Q' : α → sProp 𝕄) (h : X ⊢ Wp c p Q) :
    iprop(X ∗ (∀ a, Q a -∗ Q' a)) ⊢ Wp c p Q' := by
  refine (sep_mono_left h).trans ?_
  exact wp_wand_r frame _ Set.univ

/-! ## The loops -/

/-- The turns of a list in order, what they return handed on as a list. -/
def seqL {α β : Type} (f : Fin 7 → Prog (Eff F) α) : List (Fin 7) → (List α → Prog (Eff F) β) → Prog (Eff F) β
  | [], k => k []
  | i :: l, k => f i >>= fun a => seqL f l fun vs => k (a :: vs)

/-- The turns of a list run one after the other, from what one turn does. -/
theorem seqL_wp {α β : Type} (c : Dev nD) (f : Fin 7 → Prog (Eff F) α) (v : Fin 7 → α) (P : sProp 𝕄) [BI.Persistent P]
    (I : List (Fin 7) → sProp 𝕄) (Φ Ψ : Fin 7 → sProp 𝕄)
    (h : ∀ i l, iprop(P ∗ I (i :: l) ∗ Φ i) ⊢ Wp c (f i) fun a => iprop(⌜a = v i⌝ ∗ I l ∗ Ψ i)) (Q : β → sProp 𝕄) :
    ∀ (l : List (Fin 7)) (k : List α → Prog (Eff F) β),
      iprop(P ∗ I l ∗ bigSepL l Φ ∗ ((I [] ∗ bigSepL l Ψ) -∗ Wp c (k (l.map v)) Q)) ⊢ Wp c (seqL f l k) Q
  | [], k => by
    iintro ⟨#HP, HI, HΦ, Hk⟩
    unfold seqL
    iapply Hk
    isplitl [HI]; · iexact HI
    iexact HΦ
  | i :: l, k => by
    rw [show bigSepL (i :: l) Φ = iprop(Φ i ∗ bigSepL l Φ) from bigSepL_cons _ _ _,
      show bigSepL (i :: l) Ψ = iprop(Ψ i ∗ bigSepL l Ψ) from bigSepL_cons _ _ _]
    unfold seqL Wp
    rw [wp_bind]
    iintro ⟨#HP, HI, ⟨Hi, Hl⟩, Hk⟩
    iapply (wp_then c (f i) _ _ _ (h i l))
    isplitl [HI Hi]
    · isplitr; · iexact HP
      isplitl [HI]; · iexact HI
      iexact Hi
    iintro %a ⟨%ha, HI, Hi⟩
    subst ha
    iapply (seqL_wp c f v P I Φ Ψ h Q l fun vs => k (v i :: vs))
    isplitr; · iexact HP
    isplitl [HI]; · iexact HI
    isplitl [Hl]; · iexact Hl
    iintro ⟨HI, Hl⟩
    iapply Hk
    isplitl [HI]; · iexact HI
    isplitl [Hi]; · iexact Hi
    iexact Hl

/-- A conjunction over the turns is one over their list. -/
theorem bigSep_turns (Φ : Fin 7 → sProp 𝕄) : bigSep Finset.univ Φ = bigSepL turns Φ :=
  bigSep_univ_eq_bigSepL turns (by decide) (by decide) Φ

/-- A loop whose turns return `v`: from what its turns consume, all they produce. -/
theorem seq7_wp {α β : Type} (c : Dev nD) (f : Fin 7 → Prog (Eff F) α) (v : Fin 7 → α) (P : sProp 𝕄) [BI.Persistent P]
    (I : List (Fin 7) → sProp 𝕄) (Φ Ψ : Fin 7 → sProp 𝕄)
    (h : ∀ i l, iprop(P ∗ I (i :: l) ∗ Φ i) ⊢ Wp c (f i) fun a => iprop(⌜a = v i⌝ ∗ I l ∗ Ψ i)) (Q : β → sProp 𝕄)
    (k : (Fin 7 → α) → Prog (Eff F) β) :
    iprop(P ∗ I turns ∗ bigSep Finset.univ Φ ∗ ((I [] ∗ bigSep Finset.univ Ψ) -∗ Wp c (k v) Q)) ⊢ Wp c (seq7 f k) Q := by
  have hv : (![v 0, v 1, v 2, v 3, v 4, v 5, v 6] : Fin 7 → α) = v := funext fun i => by fin_cases i <;> rfl
  have e : seq7 f k = seqL f turns fun vs => k ![vs.getD 0 (v 0), vs.getD 1 (v 0), vs.getD 2 (v 0), vs.getD 3 (v 0),
      vs.getD 4 (v 0), vs.getD 5 (v 0), vs.getD 6 (v 0)] := rfl
  rw [bigSep_turns, bigSep_turns, e]
  conv_lhs => rw [← hv]
  exact seqL_wp c f v P I Φ Ψ h Q turns fun vs => k ![vs.getD 0 (v 0), vs.getD 1 (v 0), vs.getD 2 (v 0), vs.getD 3 (v 0),
      vs.getD 4 (v 0), vs.getD 5 (v 0), vs.getD 6 (v 0)]

/-- A loop whose turns return nothing. -/
theorem run7_wp {β : Type} (c : Dev nD) (f : Fin 7 → Prog (Eff F) PUnit) (P : sProp 𝕄) [BI.Persistent P]
    (I : List (Fin 7) → sProp 𝕄) (Φ Ψ : Fin 7 → sProp 𝕄)
    (h : ∀ i l, iprop(P ∗ I (i :: l) ∗ Φ i) ⊢ Wp c (f i) fun _ => iprop(I l ∗ Ψ i)) (Q : β → sProp 𝕄) (k : Prog (Eff F) β) :
    iprop(P ∗ I turns ∗ bigSep Finset.univ Φ ∗ ((I [] ∗ bigSep Finset.univ Ψ) -∗ Wp c k Q)) ⊢ Wp c (run7 f k) Q := by
  have e : run7 f k = seqL f turns fun _ => k := rfl
  rw [bigSep_turns, bigSep_turns, e]
  refine seqL_wp c f (fun _ => ⟨⟩) P I Φ Ψ (fun i l => (h i l).trans (wp_mono frame _ Set.univ fun a => ?_)) Q turns fun _ => k
  iintro H
  isplitr; · ipureintro; trivial
  iexact H

/-! ## One turn -/

variable (B : Dev nD → Blocks F) (K : Dev nD × Cx → ℕ)

/-- The semaphore of a handshake. -/
def handS : Bool → Sem sig
  | false => barS
  | true => endS
/-- A handshake's cell is at its semaphore. -/
theorem csem_hand : ∀ e, csem (.inl e) = .reg (handS e)
  | false => rfl
  | true => rfl

/-- Turn `i`'s signal: one unit, and what it hands over. -/
theorem signal_turn (c : Dev nD) (e : Bool) (T : CellTallies nD τ sig Unit) (i : Fin 7) (l : List (Fin 7)) :
    iprop(know B K ∗ OW c (T + due (oweH c e) (i :: l)) ∗ (dutyTok ER (kcell (peer c i) (.inl e)) 0 i ∗ pay B (peer c i) (.inl e) i))
      ⊢ Wp c (signalOp (handS e) c i) fun _ => iprop(OW c (T + due (oweH c e) l) ∗ emp) := by
  unfold signalOp semSignalWord OW
  iintro ⟨#HK, ⟨%W, HO⟩, Ht, Hp⟩
  ihave Hc := (know_at B K (peer c i) (.inl e)) $$ HK
  icases Hc with ⟨#Hinv, #Hr⟩
  have h1 := Rounds.wp_signal (Γ := ∅) (𝒱 := 𝒱₀) (defs := defs₀ (F := F)) (E := ER) (Rd := Rd B) (c := (c : Thread nD τ)) (bd := none)
    (Q := fun _ => iprop((∃ W, owes (c : Thread nD τ) (T + due (oweH c e) l) W) ∗ emp)) (k := Prog.ret)
    (dst := (peer c i : Thread nD τ)) (sem := handS e) (r := 0) (d := i) (k' := 1) (κ := K (peer c i, .inl e))
    (by rw [← csem_hand, duties_eq]; exact Finset.mem_univ _) (by rw [← csem_hand, amount_eq]; rfl) ()
    (T + due (oweH c e) l) (O₀ := T + due (oweH c e) (i :: l)) (by rw [due_cons, ← csem_hand, ← add_assoc]; rfl) (W := W) (Es := Set.univ)
  rw [← csem_hand, payload_eq] at h1
  iapply h1 $$ [HO Ht Hp]
  · isplitr; · iexact Hinv
    isplitl [HO]; · iexact HO
    isplitl [Ht]; · iexact Ht
    isplitl [Hp]; · iexact Hp
    iexact Hr
  iintro HO
  rw [wp_ret]; imodintro
  isplitl [HO]; · iexists W; iexact HO
  iempintro

/-- The wait that ends a handshake: what the peers handed over. -/
theorem hand_wait (c : Dev nD) (e : Bool) (n : ℕ) (hn : lvOf (.inl e) ≤ n) (O : CellTallies nD τ sig Unit) (hO : Above n O) :
    iprop(know B K ∗ levAts L lv ∗ OW c O ∗ atPos ER (kcell c (.inl e)) 0 ∅ 0 ∗ cred (tallyAt (kcell c (.inl e)) () 7))
      ⊢ Wp c (semWaitWord (handS e) 7#32) fun _ => iprop(OW c O ∗ (bigSep Finset.univ fun d => pay B c (.inl e) d) ∗ semVal (kcell c (.inl e)) 0) := by
  unfold semWaitWord OW
  iintro ⟨#HK, #Hlev, ⟨%W, HO⟩, Hat, Hc⟩
  ihave Hi := (know_at B K c (.inl e)) $$ HK
  icases Hi with ⟨#Hinv, #Hr⟩
  have h1 := Rounds.wp_wait_rest_token (Γ := ∅) (defs := defs₀ (F := F)) (E := ER) (Rd := Rd B) (𝒱 := 𝒱₀) (c := (c : Thread nD τ)) (bd := none) (κ := K (c, .inl e))
    (Q := fun _ => iprop((∃ W, owes (c : Thread nD τ) O W) ∗ (bigSep Finset.univ fun d => pay B c (.inl e) d) ∗ semVal (kcell c (.inl e)) 0)) (k := Prog.ret)
    (sm := .reg (handS e)) (k' := 7) (wpE_semWait_eq 𝒱₀ (c : Thread nD τ) none Set.univ) (Set.mem_univ _) () (O := O) (W := W) (R := 0) (m := 0) (T := ∅)
    (by rw [← csem_hand, expect_hand])
  rw [← csem_hand, rest_hand] at h1
  iapply h1 $$ [Hc HO Hat]
  · isplitr; · iexact Hinv
    isplitl [Hc]; · iexact Hc
    isplitl [HO]; · iexact HO
    isplitr
    · iapply (may_wait c (csem (.inl e)) n (by rw [lv_kcell]; exact hn) O hO); iexact Hlev
    iexact Hat
  iintro ⟨HO, Hat, -, Hpay⟩
  imod (Rounds.cell_close ER (Rd B) (Set.mem_univ (K (c, .inl e))) (fun h => h) (R := 0 + 1) (duties_later B (kcell c (.inl e)))) $$ [Hat] with Hz
  · isplitr; · iexact Hinv
    iexact Hat
  rw [wp_ret]; imodintro
  isplitl [HO]; · iexists _; iexact HO
  isplitl [Hpay]; · iexact Hpay
  iexact Hz

/-- Turn `i`'s transfer issued: from its share of the source and the region it lands in, the credit it is waited for with. -/
theorem send_turn (c : Dev nD) (k : Kind') (T : CellTallies nD τ sig Unit) (i : Fin 7) (l : List (Fin 7)) :
    iprop(know B K ∗ OW c (T + due (oweR c k) (i :: l))
        ∗ ((dutyTok ER (kcell c (sendX k i)) 0 (0 : Fin 7) ∗ dutyTok ER (kcell (peer c i) (recvX k i)) 0 (0 : Fin 7)) ∗ sent B c k i ∗ room (peer c i) c k i))
      ⊢ Wp c (sendOp c k.1 k.2 i) fun _ => iprop(OW c (T + due (oweR c k) l) ∗ cred (tallyAt (kcell c (sendX k i)) () (N k.2))) := by
  obtain ⟨g, o⟩ := k
  unfold sendOp OW sent room Prog.lift
  iintro ⟨#HK, ⟨%W, HO⟩, ⟨HtS, HtR⟩, Hs, ⟨%w, Hd⟩⟩
  ihave HcS := (know_at B K c (sendX (g, o) i)) $$ HK
  icases HcS with ⟨#HinvS, #HrS⟩
  ihave HcR := (know_at B K (peer c i) (recvX (g, o) i)) $$ HK
  icases HcR with ⟨#HinvR, #HrR⟩
  unfold owns
  icases Hs with ⟨%fs, %hfs, Hs⟩
  icases Hd with ⟨%fd, %hfd, Hd⟩
  iapply (Rounds.wp_send_pointsTo 𝒱₀ ER (Rd B) (c : Thread nD τ) none (κ₁ := K (c, sendX (g, o) i)) (κ₂ := K (peer c i, recvX (g, o) i))
    (c' := (peer c i : Thread nD τ)) (sS := .dma (semS g o i)) (sem := .dma (semR g o i))
    (r₁ := 0) (r₂ := 0) (d₁ := (0 : Fin 7)) (d₂ := (0 : Fin 7)) (fs := fs) (fd := fd) (q := srcShare g i)
    (by rw [show SemLoc.dma (semS g o i) = csem (sendX (g, o) i) from rfl, duties_eq]; exact Finset.mem_singleton_self _)
    (by rw [show SemLoc.dma (semR g o i) = csem (recvX (g, o) i) from rfl, duties_eq]; exact Finset.mem_singleton_self _)
    () () (N o) (credit_dst c g o i)
    (amount_eq B c (sendX (g, o) i) 0) (amount_eq B (peer c i) (recvX (g, o) i) 0)
    (T + due (oweR c (g, o)) l) (O₀ := T + due (oweR c (g, o)) (i :: l)) (by rw [due_cons, ← add_assoc]; rfl) (W := W)
    (by
      rw [show SemLoc.dma (semS g o i) = csem (sendX (g, o) i) from rfl, payload_eq, show pay B c (sendX (g, o) i) 0 = sent B c (g, o) i from rfl]
      unfold sent
      rw [own_eq (c : Thread nD τ) (src c g o i) (srcShare g i) (sv B c g o i) fs hfs])
    (by
      rw [show SemLoc.dma (semR g o i) = csem (recvX (g, o) i) from rfl, payload_eq,
        show pay B (peer c i) (recvX (g, o) i) 0 = landed B (peer c i) (peer (peer c i) i) (g, o) i from rfl, peer_peer]
      unfold landed
      rw [own_eq (peer c i : Thread nD τ) (dst c g o i) fullShare (sv B c g o i) _ ((View.read_write_univ _ _).trans hfs)])) $$ [HO HtS HtR Hs Hd]
  · isplitr; · iexact HinvS
    isplitr; · iexact HinvR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  rw [wp_ret]; imodintro
  isplitl [HO]; · iexists W; iexact HO
  iexact Hc

/-- What the two waits of turn `i` leave: the source's share back, what the peer's transfer landed, both cells at zero. -/
def done (c : Dev nD) (k : Kind') (i : Fin 7) : sProp 𝕄 :=
  iprop(sent B c k i ∗ landed B c (peer c i) k i ∗ semVal (kcell c (sendX k i)) 0 ∗ semVal (kcell c (recvX k i)) 0)

/-- Turn `i`'s two waits. -/
theorem wait_turn (c : Dev nD) (k : Kind') (n : ℕ) (hn : lvOf (recvX k 0) ≤ n) (O : CellTallies nD τ sig Unit) (hO : Above n O) (i : Fin 7) :
    iprop(know B K ∗ levAts L lv ∗ OW c O ∗ (cred (tallyAt (kcell c (sendX k i)) () (N k.2)) ∗ atPos ER (kcell c (sendX k i)) 0 ∅ 0)
        ∗ (cred (tallyAt (kcell c (recvX k i)) () (N k.2)) ∗ atPos ER (kcell c (recvX k i)) 0 ∅ 0))
      ⊢ Wp c (waitOp c k.1 k.2 i) fun _ => iprop(OW c O ∗ done B c k i) := by
  obtain ⟨g, o⟩ := k
  unfold waitOp OW done
  simp only [Prog.lift, Prog.bind_op, Prog.bind_ret]
  iintro ⟨#HK, #Hlev, ⟨%W, HO⟩, ⟨HcS, HaS⟩, ⟨HcR, HaR⟩⟩
  ihave HiS := (know_at B K c (sendX (g, o) i)) $$ HK
  icases HiS with ⟨#HinvS, #HrS⟩
  ihave HiR := (know_at B K c (recvX (g, o) i)) $$ HK
  icases HiR with ⟨#HinvR, #HrR⟩
  have h1 := fun (Q : PUnit → sProp 𝕄) (k : PUnit → Prog (Eff F) PUnit) => Rounds.wp_wait_rest_token (Γ := ∅) (defs := defs₀ (F := F)) (E := ER) (Rd := Rd B) (𝒱 := 𝒱₀) (c := (c : Thread nD τ)) (bd := none) (κ := K (c, sendX (g, o) i))
    (Q := Q) (k := k) (hw := wpE_waitDma2_eq 𝒱₀ (c : Thread nD τ) none Set.univ (sem := semS g o i) (src := dst c g o i) (dst := src c g o i)
      (hsrc := dst_words c g o i) (hdst := src_words c g o i)) (Set.mem_univ _) () (O := O) (W := W) (R := 0) (m := 0) (T := ∅)
    (by rw [show SemLoc.dma (semS g o i) = csem (sendX (g, o) i) from rfl, credit_src, Nat.zero_add]; exact (expect_dma B c false (g, o) i).symm)
  rw [show SemLoc.dma (semS g o i) = csem (sendX (g, o) i) from rfl, credit_src] at h1
  iapply (h1 _ _) $$ [HcS HO HaS]
  · isplitr; · iexact HinvS
    isplitl [HcS]; · iexact HcS
    isplitl [HO]; · iexact HO
    isplitr
    · iapply (may_wait c (csem (sendX (g, o) i)) 0 (by rw [lv_kcell]; exact le_refl 0) O (above_mono (Nat.zero_le n) hO)); iexact Hlev
    iexact HaS
  iintro ⟨HO, HaS, -, HpS⟩
  imod (Rounds.cell_close ER (Rd B) (Set.mem_univ (K (c, sendX (g, o) i))) (fun h => h) (R := 0 + 1) (duties_later B (kcell c (sendX (g, o) i)))) $$ [HaS] with HzS
  · isplitr; · iexact HinvS
    iexact HaS
  have h2 := fun (Q : PUnit → sProp 𝕄) (k : PUnit → Prog (Eff F) PUnit) (W : Waits sig Unit) => Rounds.wp_wait_rest_token (Γ := ∅) (defs := defs₀ (F := F)) (E := ER) (Rd := Rd B) (𝒱 := 𝒱₀) (c := (c : Thread nD τ)) (bd := none) (κ := K (c, recvX (g, o) i))
    (Q := Q) (k := k) (hw := wpE_waitDma2_eq 𝒱₀ (c : Thread nD τ) none Set.univ (sem := semR g o i) (src := src c g o i) (dst := dst c g o i)
      (hsrc := src_words c g o i) (hdst := dst_words c g o i)) (Set.mem_univ _) () (O := O) (W := W) (R := 0) (m := 0) (T := ∅)
    (by rw [show SemLoc.dma (semR g o i) = csem (recvX (g, o) i) from rfl, credit_dst, Nat.zero_add]; exact (expect_dma B c true (g, o) i).symm)
  rw [show SemLoc.dma (semR g o i) = csem (recvX (g, o) i) from rfl, credit_dst] at h2
  iapply (h2 _ _ _) $$ [HcR HO HaR]
  · isplitr; · iexact HinvR
    isplitl [HcR]; · iexact HcR
    isplitl [HO]; · iexact HO
    isplitr
    · iapply (may_wait c (csem (recvX (g, o) i)) n (by rw [lv_kcell]; exact hn) O hO); iexact Hlev
    iexact HaR
  iintro ⟨HO, HaR, -, HpR⟩
  imod (Rounds.cell_close ER (Rd B) (Set.mem_univ (K (c, recvX (g, o) i))) (fun h => h) (R := 0 + 1) (duties_later B (kcell c (recvX (g, o) i)))) $$ [HaR] with HzR
  · isplitr; · iexact HinvR
    iexact HaR
  rw [wp_ret]; imodintro
  isplitl [HO]; · iexists _; iexact HO
  ihave HpS := (Entails.of_eq ((rest_dma B c false (g, o) i).trans (show _ = sent B c (g, o) i from rfl))) $$ HpS
  ihave HpR := (Entails.of_eq ((rest_dma B c true (g, o) i).trans (show _ = landed B c (peer c i) (g, o) i from rfl))) $$ HpR
  isplitl [HpS]; · iexact HpS
  isplitl [HpR]; · iexact HpR
  isplitl [HzS]; · iexact HzS
  iexact HzR

/-- One part of a program, then the rest. -/
theorem wp_seq {α β : Type} (c : Dev nD) (p : Prog (Eff F) α) (k : α → Prog (Eff F) β) (X : sProp 𝕄) (Q' : α → sProp 𝕄) (Q : β → sProp 𝕄)
    (h : X ⊢ Wp c p Q') : iprop(X ∗ (∀ a, Q' a -∗ Wp c (k a) Q)) ⊢ Wp c (p >>= k) Q := by
  unfold Wp at *
  rw [wp_bind]
  exact wp_then c p X Q' _ h

end Cert.Mesh
-- ==== Proof.Mem.lean ====
/-
# The loads and stores of the body

What each part of the body between two loops does to the buffers it touches: the regions it needs, and what they hold
afterwards.
-/
module

public import proofs.«01_k».proof.Proof.Steps

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` owns a memref, at some contents. -/
abbrev anyOf {sp : Space} {s : Shape} {e : EltTy} (c : Dev nD) (m : Memref sig .tc sp s e) : sProp 𝕄 :=
  iprop(∃ v, owns (c : Thread nD τ) m fullShare v)

/-- Device `c` owns a memref, at contents `X`. -/
abbrev ow {sp : Space} {s : Shape} {e : EltTy} (c : Dev nD) (m : Memref sig .tc sp s e) (X : s.Idx → Elt F e) : sProp 𝕄 :=
  owns (c : Thread nD τ) m fullShare X

/-- A finished program. -/
theorem wp_done {α : Type} (c : Dev nD) (a : α) (Q : α → sProp 𝕄) : Q a ⊢ Wp c (.ret a) Q := by
  unfold Wp
  rw [wp_ret]
  iintro H
  imodintro
  iexact H

/-- A rectangle at offset zero places an index at itself. -/
theorem emb_zero {s : Shape} {off : Fin s.rank → Nat} {inb} (h : ∀ a, off a = 0) (j : (Rect.unit (s := s) off s.size inb).shape.Idx) :
    (Rect.unit (s := s) off s.size inb).emb j = j := by
  funext a
  exact Fin.ext (by show off a + 1 * (j a : Nat) = (j a : Nat); rw [h a]; omega)

/-- A memref's slice at its whole shape is the memref. -/
theorem own_zero {sp : Space} {s : Shape} {e : EltTy} (c : Dev nD) (m : Memref sig .tc sp s e) {off : Fin s.rank → Nat} {inb} (h : ∀ a, off a = 0)
    (hs : ∀ a, (Rect.unit (s := s) off s.size inb).stride a = 1) (X : s.Idx → Elt F e) :
    (owns (c : Thread nD τ) (m.slice (Rect.unit (s := s) off s.size inb) hs) fullShare X : sProp 𝕄) = ow c m X := by
  have h1 := own_full (Name := ℕ) (U := UU) (Lvl := ℕ) (Ix := Unit) (c : Thread nD τ) m fullShare (Rect.unit (s := s) off s.size inb) hs (whole_cov h) X
  refine Eq.trans ?_ h1
  exact congrArg (owns (c : Thread nD τ) (m.slice (Rect.unit (s := s) off s.size inb) hs) fullShare) (funext fun j => congrArg X (emb_zero h j)).symm

/-- A load of a region. -/
theorem ld {α : Type} {cs : CoreSpace} {s : Shape} {e : EltTy} (c : Dev nD) (m : Memref sig .tc cs s e) (r : Rect s) (hr : ∀ a, r.stride a = 1)
    {hl : m.view.LoadsAt r} (k : (r.shape.Idx → Elt F e) → Prog (Eff F) α) (Q : α → sProp 𝕄) (X : r.shape.Idx → Elt F e) :
    iprop(ow c (m.slice r hr) X ∗ (ow c (m.slice r hr) X -∗ Wp c (k X) Q)) ⊢ Wp c (.op (.load m r.toLoadRect hl) k) Q := by
  iintro ⟨H, Hk⟩
  iapply (own_load 𝒱₀ (c : Thread nD τ) none Set.univ m r hr fullShare X) $$ H
  iexact Hk

/-- A load of a whole memref. -/
theorem ldw {α : Type} {cs : CoreSpace} {s : Shape} {e : EltTy} (c : Dev nD) (m : Memref sig .tc cs s e) {off : Fin s.rank → Nat} {inb}
    (h : ∀ a, off a = 0) {hl : m.view.LoadsAt (Rect.unit (s := s) off s.size inb)} (k : (s.Idx → Elt F e) → Prog (Eff F) α) (Q : α → sProp 𝕄)
    (X : s.Idx → Elt F e) :
    iprop(ow c m X ∗ (ow c m X -∗ Wp c (k X) Q)) ⊢ Wp c (.op (.load m (Rect.unit (s := s) off s.size inb).toLoadRect hl) k) Q := by
  rw [← own_zero c m h (inb := inb) (fun _ => rfl) X]
  exact ld c m (Rect.unit (s := s) off s.size inb) _ k Q X

/-- A store to a region. -/
theorem st {α : Type} {cs : CoreSpace} {s : Shape} {e : EltTy} (c : Dev nD) (m : Memref sig .tc cs s e) (r : Rect s) (hr : ∀ a, r.stride a = 1)
    {w : r.shape.Idx → Elt F e} {hx : (m.access r).Stores Finset.univ} {hm : (Finset.univ : Finset r.shape.Idx) = Finset.univ ∨ ∀ a, r.stride a = 1}
    (k : PUnit → Prog (Eff F) α) (Q : α → sProp 𝕄) (X : r.shape.Idx → Elt F e) :
    iprop(ow c (m.slice r hr) X ∗ (ow c (m.slice r hr) w -∗ Wp c (k ⟨⟩) Q)) ⊢ Wp c (.op (.store m r w Finset.univ hx hm) k) Q := by
  iintro ⟨H, Hk⟩
  iapply (own_store 𝒱₀ (c : Thread nD τ) none Set.univ m r hr) $$ [H]
  · iexists X; iexact H
  iexact Hk

/-- A store to a whole memref. -/
theorem stw {α : Type} {cs : CoreSpace} {s : Shape} {e : EltTy} (c : Dev nD) (m : Memref sig .tc cs s e) {off : Fin s.rank → Nat} {inb}
    (h : ∀ a, off a = 0) {w : s.Idx → Elt F e} {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    (k : PUnit → Prog (Eff F) α) (Q : α → sProp 𝕄) (X : s.Idx → Elt F e) :
    iprop(ow c m X ∗ (ow c m w -∗ Wp c (k ⟨⟩) Q)) ⊢ Wp c (.op (.store m (Rect.unit (s := s) off s.size inb) w Finset.univ hx hm) k) Q := by
  rw [← own_zero c m h (inb := inb) (fun _ => rfl) X, ← own_zero c m h (inb := inb) (fun _ => rfl) w]
  exact st c m (Rect.unit (s := s) off s.size inb) _ k Q X

/-- Both offsets are zero. -/
theorem zero2 : ∀ a, (![0, 0] : Fin 2 → Nat) a = 0 := by decide

variable (B : Dev nD → Blocks F)

/-- The first product, from the device's blocks. -/
theorem firstOp_wp (c : Dev nD) :
    iprop(ow c xM (B c).x ∗ ow c w0M (B c).w0 ∗ anyOf c partM)
      ⊢ Wp c firstOp fun _ => iprop(ow c xM (B c).x ∗ ow c w0M (B c).w0 ∗ ow c partM (part B c)) := by
  unfold firstOp
  simp only [Prog.lift, Prog.bind_op, Prog.bind_ret]
  iintro ⟨Hx, Hw, ⟨%v, Hp⟩⟩
  iapply (ldw c xM zero2)
  isplitl [Hx]; · iexact Hx
  iintro Hx
  iapply (ldw c w0M zero2)
  isplitl [Hw]; · iexact Hw
  iintro Hw
  iapply (ldw c partM zero2)
  isplitl [Hp]; · iexact Hp
  iintro Hp
  iapply (stw c partM zero2)
  isplitl [Hp]; · iexact Hp
  iintro Hp
  iapply (wp_done c)
  isplitl [Hx]; · iexact Hx
  isplitl [Hw]; · iexact Hw
  iexact Hp

/-- One plane written. -/
theorem putM_wp (c : Dev nD) (p : Fin 2) (v : Vec F S1x512x512 .bf16) :
    anyOf c (mbufM.slice (planeM p) one_stride) ⊢ Wp c (putM p v) fun _ => ow c (mbufM.slice (planeM p) one_stride) v := by
  unfold putM
  simp only [Prog.lift, Prog.bind_op, Prog.bind_ret]
  iintro ⟨%X, H⟩
  iapply (ld c mbufM (planeM p) one_stride)
  isplitl [H]; · iexact H
  iintro H
  iapply (st c mbufM (planeM p) one_stride)
  isplitl [H]; · iexact H
  iintro H
  iapply (wp_done c)
  iexact H

/-- The two products of weight blocks, one per plane. -/
theorem weightsOp_wp (c : Dev nD) :
    iprop((ow c o0M (B c).o0 ∗ ow c w1M (B c).w1 ∗ ow c o1M (B c).o1 ∗ ow c w2M (B c).w2)
        ∗ anyOf c (mbufM.slice (planeM 0) one_stride) ∗ anyOf c (mbufM.slice (planeM 1) one_stride))
      ⊢ Wp c weightsOp fun _ => iprop((ow c o0M (B c).o0 ∗ ow c w1M (B c).w1 ∗ ow c o1M (B c).o1 ∗ ow c w2M (B c).w2)
        ∗ ow c (mbufM.slice (planeM 0) one_stride) (plane B c 0) ∗ ow c (mbufM.slice (planeM 1) one_stride) (plane B c 1)) := by
  unfold weightsOp
  simp only [Prog.lift, Prog.bind_op, Prog.bind_ret]
  iintro ⟨⟨H0, H1, H2, H3⟩, Ha, Hb⟩
  iapply (ldw c o0M zero2)
  isplitl [H0]; · iexact H0
  iintro H0
  iapply (ldw c w1M zero2)
  isplitl [H1]; · iexact H1
  iintro H1
  iapply (wp_seq c _ _ _ _ _ (putM_wp c 0 (plane B c 0)))
  isplitl [Ha]; · iexact Ha
  iintro %u0 Ha
  iapply (ldw c o1M zero2)
  isplitl [H2]; · iexact H2
  iintro H2
  iapply (ldw c w2M zero2)
  isplitl [H3]; · iexact H3
  iintro H3
  iapply (wp_then c _ _ _ _ (putM_wp c 1 (plane B c 1)))
  isplitl [Hb]; · iexact Hb
  iintro %u1 Hb
  isplitl [H0 H1 H2 H3]
  · isplitl [H0]; · iexact H0
    isplitl [H1]; · iexact H1
    isplitl [H2]; · iexact H2
    iexact H3
  isplitl [Ha]; · iexact Ha
  iexact Hb

/-- The device's own rows of the first product, read. -/
theorem ownA_wp (c : Dev nD) (X : Vec F S32x512 .bf16) :
    ow c (partM.slice (rowsA c) one_stride) X ⊢ Wp c (ownA c) fun v => iprop(⌜v = X⌝ ∗ ow c (partM.slice (rowsA c) one_stride) X) := by
  rw [← slice_off partM (off4_eq c) (k0_off4_inb c)]
  unfold ownA Prog.lift
  iintro H
  iapply (ld c partM (Rect.unit (s := S256x512) (k0_off4 c) S32x512.size (k0_off4_inb c)) (fun _ => rfl))
  isplitl [H]; · iexact H
  iintro H
  iapply (wp_done c)
  isplitr; · ipureintro; rfl
  iexact H

/-- The device's own rows of a plane, read. -/
theorem ownM_wp (c : Dev nD) (p : Fin 2) (X : Vec F S1x64x512 .bf16) :
    ow c (mbufM.slice (rowsM p c) one_stride) X ⊢ Wp c (ownM c p) fun v => iprop(⌜v = X⌝ ∗ ow c (mbufM.slice (rowsM p c) one_stride) X) := by
  rw [← slice_off mbufM (offO_eq c p) (offO_inb c p)]
  unfold ownM Prog.lift
  iintro H
  iapply (ld c mbufM (Rect.unit (s := S2x512x512) (offO c p) S1x64x512.size (offO_inb c p)) (fun _ => rfl))
  isplitl [H]; · iexact H
  iintro H
  iapply (wp_done c)
  isplitr; · ipureintro; rfl
  iexact H

/-- The summed rows, written where the gather reads them. -/
theorem putHs_wp (c : Dev nD) (v : Vec F S32x512 .bf16) : anyOf c hsM ⊢ Wp c (putHs v) fun _ => ow c hsM v := by
  unfold putHs
  simp only [Prog.lift, Prog.bind_op, Prog.bind_ret]
  iintro ⟨%X, H⟩
  iapply (ldw c hsM zero2)
  isplitl [H]; · iexact H
  iintro H
  iapply (stw c hsM zero2)
  isplitl [H]; · iexact H
  iintro H
  iapply (wp_done c)
  iexact H

/-- The summed rows of a plane, written where the gather reads them. -/
theorem putMs_wp (c : Dev nD) (p : Fin 2) (v : Vec F S1x64x512 .bf16) :
    anyOf c (msM.slice (planeS p) one_stride) ⊢ Wp c (putMs p v) fun _ => ow c (msM.slice (planeS p) one_stride) v := by
  unfold putMs
  simp only [Prog.lift, Prog.bind_op, Prog.bind_ret]
  iintro ⟨%X, H⟩
  iapply (ld c msM (planeS p) one_stride)
  isplitl [H]; · iexact H
  iintro H
  iapply (st c msM (planeS p) one_stride)
  isplitl [H]; · iexact H
  iintro H
  iapply (wp_done c)
  iexact H

/-- The summed rows, written to the device's own rows of the gathered matrix. -/
theorem putHf_wp (c : Dev nD) (v : Vec F S32x512 .bf16) :
    anyOf c (hfullM.slice (rowsA c) one_stride) ⊢ Wp c (putHf c v) fun _ => ow c (hfullM.slice (rowsA c) one_stride) v := by
  rw [← slice_off hfullM (off4_eq c) (k0_off4_inb c)]
  unfold putHf
  simp only [Prog.lift, Prog.bind_op, Prog.bind_ret]
  iintro ⟨%X, H⟩
  iapply (ld c hfullM (Rect.unit (s := S256x512) (k0_off4 c) S32x512.size (k0_off4_inb c)) (fun _ => rfl))
  isplitl [H]; · iexact H
  iintro H
  iapply (st c hfullM (Rect.unit (s := S256x512) (k0_off4 c) S32x512.size (k0_off4_inb c)) (fun _ => rfl))
  isplitl [H]; · iexact H
  iintro H
  iapply (wp_done c)
  iexact H

/-- The summed rows of a plane, written to the device's own rows of the gathered plane. -/
theorem putMf_wp (c : Dev nD) (p : Fin 2) (v : Vec F S1x64x512 .bf16) :
    anyOf c (mfullM.slice (rowsM p c) one_stride) ⊢ Wp c (putMf c p v) fun _ => ow c (mfullM.slice (rowsM p c) one_stride) v := by
  rw [← slice_off mfullM (offO_eq c p) (offO_inb c p)]
  unfold putMf
  simp only [Prog.lift, Prog.bind_op, Prog.bind_ret]
  iintro ⟨%X, H⟩
  iapply (ld c mfullM (Rect.unit (s := S2x512x512) (offO c p) S1x64x512.size (offO_inb c p)) (fun _ => rfl))
  isplitl [H]; · iexact H
  iintro H
  iapply (st c mfullM (Rect.unit (s := S2x512x512) (offO c p) S1x64x512.size (offO_inb c p)) (fun _ => rfl))
  isplitl [H]; · iexact H
  iintro H
  iapply (wp_done c)
  iexact H

/-- The gathered activation, read. -/
theorem getHf_wp (c : Dev nD) (X : Vec F S256x512 .bf16) :
    ow c hfullM X ⊢ Wp c getHf fun v => iprop(⌜v = X⌝ ∗ ow c hfullM X) := by
  unfold getHf Prog.lift
  iintro H
  iapply (ldw c hfullM zero2)
  isplitl [H]; · iexact H
  iintro H
  iapply (wp_done c)
  isplitr; · ipureintro; rfl
  iexact H

/-- A gathered plane, read. -/
theorem getMf_wp (c : Dev nD) (p : Fin 2) (X : Vec F S1x512x512 .bf16) :
    ow c (mfullM.slice (planeM p) one_stride) X ⊢ Wp c (getMf p) fun v => iprop(⌜v = X⌝ ∗ ow c (mfullM.slice (planeM p) one_stride) X) := by
  unfold getMf Prog.lift
  iintro H
  iapply (ld c mfullM (planeM p) one_stride)
  isplitl [H]; · iexact H
  iintro H
  iapply (wp_done c)
  isplitr; · ipureintro; rfl
  iexact H

/-- The result, written. -/
theorem lastOp_wp (c : Dev nD) :
    iprop(ow c o2M (B c).o2 ∗ anyOf c outM)
      ⊢ Wp c (lastOp (hAll B) (mPlane B 0) (mPlane B 1)) fun _ => iprop(ow c o2M (B c).o2 ∗ ow c outM (result B c)) := by
  unfold lastOp
  simp only [Prog.lift, Prog.bind_op, Prog.bind_ret]
  iintro ⟨Ho, ⟨%X, H⟩⟩
  iapply (ldw c o2M zero2)
  isplitl [Ho]; · iexact Ho
  iintro Ho
  iapply (ldw c outM zero2)
  isplitl [H]; · iexact H
  iintro H
  iapply (stw c outM zero2)
  isplitl [H]; · iexact H
  iintro H
  iapply (wp_done c)
  isplitl [Ho]; · iexact Ho
  iexact H

end Cert.Mesh
-- ==== Proof.Regions.lean ====
/-
# The buffers as the regions the transfers touch

How each buffer splits into the regions that are sent, landed in or read, and how it is put together again — at the
contents the run gives it where those matter, at any contents where they do not.
-/
module

public import proofs.«01_k».proof.Proof.Mem

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A conjunction over the six kinds of transfer. -/
theorem bigSep_kind (Φ : Kind' → sProp 𝕄) :
    bigSep Finset.univ Φ = iprop(Φ (false, none) ∗ Φ (false, some 0) ∗ Φ (false, some 1) ∗ Φ (true, none) ∗ Φ (true, some 0) ∗ Φ (true, some 1)) :=
  bigSep_univ_eq_bigSepL [(false, none), (false, some 0), (false, some 1), (true, none), (true, some 0), (true, some 1)]
    (by decide) (by decide) Φ

/-- A conjunction over the turns, or over any finite type, part by part. -/
theorem bs_mono {T : Type} [Fintype T] {Φ Ψ : T → sProp 𝕄} (h : ∀ i, Φ i ⊢ Ψ i) : (bigSep Finset.univ Φ) ⊢ bigSep Finset.univ Ψ :=
  bigSep_mono fun i _ => h i

/-- Two conjuncts, each weakened. -/
theorem pair_mono {P P' R R' : sProp 𝕄} (h : P ⊢ P') (h' : R ⊢ R') : iprop(P ∗ R) ⊢ iprop(P' ∗ R') := BIClass.sep_mono h h'

/-- A memref at some contents is owned at any. -/
theorem any_of {sp : Space} {s : Shape} {e : EltTy} (c : Dev nD) (m : Memref sig .tc sp s e) (X : s.Idx → Elt F e) : ow c m X ⊢ anyOf c m := by
  iintro H
  iexists X
  iexact H

/-- A conjunction over two is a pair. -/
theorem two (Φ : Fin 2 → sProp 𝕄) : bigSep Finset.univ Φ = iprop(Φ 0 ∗ Φ 1) := bigSep_fin_two Φ

/-- A memref owned at any contents is its squeezed view at any contents. -/
theorem any_squeeze {sp : Space} {s s' : Shape} {e : EltTy} (c : Dev nD) (m : Memref sig .tc sp s e) (h : s.Squeezes s') :
    anyOf (F := F) c m ⊢ anyOf c (m.squeeze s' h) := by
  iintro ⟨%X, H⟩
  iexists fun j => X (Shape.reshapeEquiv h.numel_eq j)
  rw [own_squeeze (c : Thread nD τ) m fullShare s' h]
  rw [show (fun j => X (Shape.reshapeEquiv h.numel_eq ((Shape.reshapeEquiv h.numel_eq).symm j))) = X from
    funext fun j => by rw [Equiv.apply_symm_apply]]
  iexact H

/-- A memref owned at any contents is its slices at any contents. -/
theorem any_cut {sp : Space} {s : Shape} {e : EltTy} {T : Type} [Fintype T] [DecidableEq T] (c : Dev nD) (m : Memref sig .tc sp s e)
    (r : T → Rect s) (hr : ∀ t a, (r t).stride a = 1)
    (hd : ∀ t t', t ≠ t' → Disjoint (r t).set (r t').set) (hcov : ∀ i, ∃ t, i ∈ (r t).set) :
    anyOf (F := F) c m ⊢ bigSep Finset.univ fun t => anyOf c (m.slice (r t) (hr t)) := by
  iintro ⟨%X, H⟩
  ihave H := (Entails.of_eq (own_cut_whole (c : Thread nD τ) m fullShare r hr hd hcov X)) $$ H
  iapply (bs_mono (Φ := fun t => ow c (m.slice (r t) (hr t)) fun j => X ((r t).emb j)) fun t => any_of c (m.slice (r t) (hr t)) _) $$ H

/-- Slices that cover a memref, at any contents, are the memref at some contents. -/
theorem any_glue {sp : Space} {s : Shape} {e : EltTy} {T : Type} [Fintype T] [DecidableEq T] (c : Dev nD) (m : Memref sig .tc sp s e)
    (r : T → Rect s) (hr : ∀ t a, (r t).stride a = 1)
    (hd : ∀ t t', t ≠ t' → Disjoint (r t).set (r t').set) (hcov : ∀ i, ∃ t, i ∈ (r t).set) :
    (bigSep Finset.univ fun t => anyOf (F := F) c (m.slice (r t) (hr t))) ⊢ anyOf c m :=
  own_glue (c : Thread nD τ) m fullShare r hr hd hcov

/-! ## Landing rooms -/

/-- A room is the landing's region at any contents. -/
theorem room_eq (c : Dev nD) (k : Kind') (i : Fin 7) : room (F := F) c (peer c i) k i = anyOf c (dst (peer c i) k.1 k.2 i) := rfl

/-- The first scatter's landing buffer is the rooms of its seven transfers. -/
theorem rooms_scatA (c : Dev nD) : anyOf c arecvM ⊢ bigSep Finset.univ fun i => room (F := F) c (peer c i) (false, none) i :=
  (any_cut c arecvM slotA (fun _ => one_stride) slotA_disj slotA_cov).trans (bs_mono fun i => any_squeeze c _ squeezes_S1x32x512_S32x512)

/-- The planes' landing buffer is the rooms of the fourteen transfers. -/
theorem rooms_scatM (c : Dev nD) :
    anyOf c mrecvM ⊢ iprop((bigSep Finset.univ fun i => room (F := F) c (peer c i) (false, some 0) i)
      ∗ bigSep Finset.univ fun i => room (F := F) c (peer c i) (false, some 1) i) := by
  refine (any_cut c mrecvM (fun t : Fin 2 × Fin 7 => slotB t.1 t.2) (fun _ => one_stride) slotB_disj slotB_cov).trans ?_
  rw [bigSep_univ_prod, two]
  exact pair_mono (bs_mono fun i => any_squeeze c _ squeezes_S1x64x512_S64x512) (bs_mono fun i => any_squeeze c _ squeezes_S1x64x512_S64x512)

/-- The gathered activation's buffer is the device's own rows and the rooms of the gather. -/
theorem rooms_gathA (c : Dev nD) :
    anyOf c hfullM ⊢ iprop(anyOf c (hfullM.slice (rowsA c) one_stride) ∗ bigSep Finset.univ fun i => room (F := F) c (peer c i) (true, none) i) := by
  refine (any_cut c hfullM rowsA (fun _ => one_stride) rowsA_disj rowsA_cov).trans ?_
  rw [bigSep_peer c]
  refine pair_mono (BIBase.Entails.refl) (bs_mono fun i => ?_)
  rw [room_eq]
  show _ ⊢ anyOf c (dst (peer c i) true none i)
  rw [dst_gathA]
  exact BIBase.Entails.refl

/-- A gathered plane's buffer is the device's own rows and the rooms of the gather. -/
theorem rooms_plane (c : Dev nD) (p : Fin 2) :
    anyOf c (mfullM.slice (planeM p) one_stride) ⊢ iprop(anyOf c (mfullM.slice (rowsM p c) one_stride)
      ∗ bigSep Finset.univ fun i => room (F := F) c (peer c i) (true, some p) i) := by
  refine BIBase.Entails.trans (Q := bigSep Finset.univ fun t => anyOf c (mfullM.slice (rowsM p t) one_stride)) ?_ ?_
  · iintro ⟨%X, H⟩
    obtain ⟨Y, rfl⟩ : ∃ Y : S2x512x512.Idx → Elt F .bf16, (fun j => Y ((planeM p).emb j)) = X :=
      ⟨fun i => X (inPlane i), funext fun j => congrArg X (funext fun a => by
        have hj0 : (j 0 : Nat) < 1 := (j 0).isLt
        fin_cases a
        · exact Fin.ext (by show 0 = (j 0 : Nat); omega)
        · exact Fin.ext (by show 0 + 1 * (j 1 : Nat) = (j 1 : Nat); omega)
        · exact Fin.ext (by show 0 + 1 * (j 2 : Nat) = (j 2 : Nat); omega))⟩
    ihave H := (Entails.of_eq (own_cut (c : Thread nD τ) mfullM fullShare (rowsM p) (fun _ => one_stride) (planeM p) one_stride (rowsM_disj p) (rowsM_cov p) Y)) $$ H
    iapply (bs_mono (Φ := fun t => ow c (mfullM.slice (rowsM p t) one_stride) fun j => Y ((rowsM p t).emb j))
      fun t => any_of c (mfullM.slice (rowsM p t) one_stride) _) $$ H
  · rw [bigSep_peer c]
    refine pair_mono (BIBase.Entails.refl) (bs_mono fun i => ?_)
    rw [room_eq]
    show _ ⊢ anyOf c (dst (peer c i) true (some p) i)
    rw [dst_gathM]
    exact any_squeeze c _ squeezes_S1x64x512_S64x512

/-- A buffer of two planes is its planes, -/
theorem planes_cut (c : Dev nD) (m : Memref sig .tc .vmem S2x512x512 .bf16) :
    anyOf (F := F) c m ⊢ iprop(anyOf c (m.slice (planeM 0) one_stride) ∗ anyOf c (m.slice (planeM 1) one_stride)) := by
  refine (any_cut c m planeM (fun _ => one_stride) planeM_disj planeM_cov).trans ?_
  rw [two]

/-- and its planes are the buffer. -/
theorem planes_glue (c : Dev nD) (m : Memref sig .tc .vmem S2x512x512 .bf16) :
    iprop(anyOf (F := F) c (m.slice (planeM 0) one_stride) ∗ anyOf c (m.slice (planeM 1) one_stride)) ⊢ anyOf c m := by
  refine BIBase.Entails.trans ?_ (any_glue c m planeM (fun _ => one_stride) planeM_disj planeM_cov)
  rw [two]

/-- The buffer of summed rows is those of its planes, -/
theorem planesS_cut (c : Dev nD) :
    anyOf (F := F) c msM ⊢ iprop(anyOf c (msM.slice (planeS 0) one_stride) ∗ anyOf c (msM.slice (planeS 1) one_stride)) := by
  refine (any_cut c msM planeS (fun _ => one_stride) planeS_disj planeS_cov).trans ?_
  rw [two]

/-- and those of its planes are the buffer. -/
theorem planesS_glue (c : Dev nD) :
    iprop(anyOf (F := F) c (msM.slice (planeS 0) one_stride) ∗ anyOf c (msM.slice (planeS 1) one_stride)) ⊢ anyOf c msM := by
  refine BIBase.Entails.trans ?_ (any_glue c msM planeS (fun _ => one_stride) planeS_disj planeS_cov)
  rw [two]

variable (B : Dev nD → Blocks F)

/-! ## What is sent -/

/-- The first product's buffer is the device's own rows and what the scatter sends. -/
theorem sent_scatA (c : Dev nD) :
    (ow c partM (part B c) : sProp 𝕄) = iprop(ow c (partM.slice (rowsA c) one_stride) (vA B c) ∗ bigSep Finset.univ fun i => sent B c (false, none) i) := by
  have h := own_cut_whole (Name := ℕ) (U := UU) (Lvl := ℕ) (Ix := Unit) (c : Thread nD τ) partM fullShare rowsA (fun _ => one_stride) rowsA_disj rowsA_cov (part B c)
  rw [bigSep_peer c] at h
  refine h.trans (congrArg (fun Z : sProp 𝕄 => iprop(ow c (partM.slice (rowsA c) one_stride) (vA B c) ∗ Z)) (bigSep_congr fun i _ => ?_))
  show _ = owns (c : Thread nD τ) (src c false none i) fullShare (sv B c false none i)
  rw [src_scatA]
  rfl

/-- A plane's buffer is the device's own rows and what the scatter sends. -/
theorem sent_scatM (c : Dev nD) (p : Fin 2) :
    (ow c (mbufM.slice (planeM p) one_stride) (plane B c p) : sProp 𝕄)
      = iprop(ow c (mbufM.slice (rowsM p c) one_stride) (vM B c p) ∗ bigSep Finset.univ fun i => sent B c (false, some p) i) := by
  have h := own_cut (Name := ℕ) (U := UU) (Lvl := ℕ) (Ix := Unit) (c : Thread nD τ) mbufM fullShare (rowsM p) (fun _ => one_stride) (planeM p) one_stride
    (rowsM_disj p) (rowsM_cov p) (planes B c)
  rw [bigSep_peer c] at h
  rw [← planes_plane B c p]
  refine h.trans (congrArg (fun Z : sProp 𝕄 => iprop(ow c (mbufM.slice (rowsM p c) one_stride) (vM B c p) ∗ Z)) (bigSep_congr fun i _ => ?_))
  show _ = owns (c : Thread nD τ) (src c false (some p) i) fullShare (sv B c false (some p) i)
  rw [src_scatM, own_squeeze]
  exact congrArg (owns (c : Thread nD τ) (mbufM.slice (rowsM p (peer c i)) one_stride) fullShare) (lift64_drop _).symm

/-- The summed rows of the activation are the seven shares the gather reads. -/
theorem sent_gathA (c : Dev nD) : (ow c hsM (hs B c) : sProp 𝕄) = bigSep Finset.univ fun i => sent B c (true, none) i :=
  own_deal (c : Thread nD τ) hsM fullShare (hs B c)

/-- The summed rows of a plane are the seven shares the gather reads. -/
theorem sent_gathM (c : Dev nD) (p : Fin 2) :
    (ow c (msM.slice (planeS p) one_stride) (ms B c p) : sProp 𝕄) = bigSep Finset.univ fun i => sent B c (true, some p) i := by
  refine (own_deal (c : Thread nD τ) (msM.slice (planeS p) one_stride) fullShare (ms B c p)).trans (bigSep_congr fun i _ => ?_)
  show _ = owns (c : Thread nD τ) ((msM.slice (planeS p) one_stride).squeeze S64x512 squeezes_S1x64x512_S64x512)
    (Transfers.dealOf fullShare Finset.univ i) (drop (ms B c p))
  rw [own_squeeze]
  exact congrArg (owns (c : Thread nD τ) (msM.slice (planeS p) one_stride) (Transfers.dealOf fullShare Finset.univ i)) (lift64_drop _).symm

/-! ## What has landed -/

/-- What lands in turn `i` of the first scatter is slot `i` at the peer's rows. -/
theorem landed_scatA (c : Dev nD) (i : Fin 7) : landed B c (peer c i) (false, none) i = ow c (arecvM.slice (slotA i) one_stride) (gA B c i) :=
  own_squeeze (c : Thread nD τ) (arecvM.slice (slotA i) one_stride) fullShare S32x512 squeezes_S1x32x512_S32x512 _

/-- What lands in turn `i` of a plane's scatter is the slot at the peer's rows. -/
theorem landed_scatM (c : Dev nD) (p : Fin 2) (i : Fin 7) :
    landed B c (peer c i) (false, some p) i = ow c (mrecvM.slice (slotB p i) one_stride) (gM B c p i) :=
  own_squeeze (c : Thread nD τ) (mrecvM.slice (slotB p i) one_stride) fullShare S64x512 squeezes_S1x64x512_S64x512 _

/-- The landed slots of the first scatter are their buffer again. -/
theorem back_scatA (c : Dev nD) : (bigSep Finset.univ fun i => landed B c (peer c i) (false, none) i) ⊢ anyOf c arecvM := by
  refine BIBase.Entails.trans (bs_mono fun i => ?_) (any_glue c arecvM slotA (fun _ => one_stride) slotA_disj slotA_cov)
  rw [landed_scatA]
  exact any_of c _ _

/-- The landed slots of the planes' scatters are their buffer again. -/
theorem back_scatM (c : Dev nD) :
    iprop((bigSep Finset.univ fun i => landed B c (peer c i) (false, some 0) i) ∗ bigSep Finset.univ fun i => landed B c (peer c i) (false, some 1) i)
      ⊢ anyOf c mrecvM := by
  refine BIBase.Entails.trans ?_ (any_glue c mrecvM (fun t : Fin 2 × Fin 7 => slotB t.1 t.2) (fun _ => one_stride) slotB_disj slotB_cov)
  rw [bigSep_univ_prod, two]
  refine pair_mono (bs_mono fun i => ?_) (bs_mono fun i => ?_) <;> rw [landed_scatM] <;> exact any_of c _ _

/-- The device's own rows and the seven landed are the gathered activation. -/
theorem landed_gathA (c : Dev nD) :
    iprop(ow c (hfullM.slice (rowsA c) one_stride) (hs B c) ∗ bigSep Finset.univ fun i => landed B c (peer c i) (true, none) i)
      = (ow c hfullM (hAll B) : sProp 𝕄) := by
  have h := own_cut_whole (Name := ℕ) (U := UU) (Lvl := ℕ) (Ix := Unit) (c : Thread nD τ) hfullM fullShare rowsA (fun _ => one_stride) rowsA_disj rowsA_cov (hAll B)
  rw [bigSep_peer c, hAll_rows] at h
  refine Eq.trans (congrArg (fun Z : sProp 𝕄 => iprop(ow c (hfullM.slice (rowsA c) one_stride) (hs B c) ∗ Z)) (bigSep_congr fun i _ => ?_)) h.symm
  show owns (c : Thread nD τ) (dst (peer c i) true none i) fullShare (hs B (peer c i)) = _
  rw [dst_gathA, hAll_rows]

/-- The device's own rows and the seven landed are the gathered plane. -/
theorem landed_gathM (c : Dev nD) (p : Fin 2) :
    iprop(ow c (mfullM.slice (rowsM p c) one_stride) (ms B c p) ∗ bigSep Finset.univ fun i => landed B c (peer c i) (true, some p) i)
      = (ow c (mfullM.slice (planeM p) one_stride) (mPlane B p) : sProp 𝕄) := by
  have h := own_cut (Name := ℕ) (U := UU) (Lvl := ℕ) (Ix := Unit) (c : Thread nD τ) mfullM fullShare (rowsM p) (fun _ => one_stride) (planeM p) one_stride
    (rowsM_disj p) (rowsM_cov p) (mAll B)
  rw [bigSep_peer c, mAll_rows] at h
  refine Eq.trans (congrArg (fun Z : sProp 𝕄 => iprop(ow c (mfullM.slice (rowsM p c) one_stride) (ms B c p) ∗ Z)) (bigSep_congr fun i _ => ?_)) h.symm
  show owns (c : Thread nD τ) (dst (peer c i) true (some p) i) fullShare (drop (ms B (peer c i) p)) = _
  rw [dst_gathM, own_squeeze, mAll_rows]
  exact congrArg (owns (c : Thread nD τ) (mfullM.slice (rowsM p (peer c i)) one_stride) fullShare) (lift64_drop _)

end Cert.Mesh
-- ==== Proof.Body.lean ====
/-
# The body on one device

The loops with what all their turns consume and produce together, and then the whole body, from the ghost state, the
staged blocks and the scratch buffers to the result, every cell back at zero.
-/
module

public import proofs.«01_k».proof.Proof.Regions

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A conjunction over the seven turns. -/
abbrev each (Φ : Fin 7 → sProp 𝕄) : sProp 𝕄 := bigSep Finset.univ Φ

/-- A conjunction of pairs over the turns is the pair of the conjunctions. -/
theorem each_sep (Φ Ψ : Fin 7 → sProp 𝕄) : (each fun i => iprop(Φ i ∗ Ψ i)) = iprop(each Φ ∗ each Ψ) := bigSep_sep _ _ _

variable (B : Dev nD → Blocks F) (K : Dev nD × Cx → ℕ)

/-- When no turn is left a loop owes nothing more. -/
theorem OW_nil (c : Dev nD) (T : CellTallies nD τ sig Unit) (f : Fin 7 → CellTallies nD τ sig Unit) :
    (OW c (T + due f []) : sProp 𝕄) = OW c T := by rw [due_nil, add_zero]

/-! ## The loops -/

/-- A handshake's signals. -/
theorem signals_wp {β : Type} (c : Dev nD) (e : Bool) (O T : CellTallies nD τ sig Unit) (hO : O = T + due (oweH c e) turns)
    (k : Prog (Eff F) β) (Q : β → sProp 𝕄) :
    iprop(know B K ∗ OW c O ∗ (each fun i => dutyTok ER (kcell (peer c i) (.inl e)) 0 i) ∗ (each fun i => pay B (peer c i) (.inl e) i)
        ∗ (OW c T -∗ Wp c k Q)) ⊢ Wp c (run7 (signalOp (handS e) c) k) Q := by
  subst hO
  iintro ⟨#HK, HO, Ht, Hp, Hk⟩
  iapply (run7_wp c (signalOp (handS e) c) (know B K) (fun l => OW c (T + due (oweH c e) l))
    (fun i => iprop(dutyTok ER (kcell (peer c i) (.inl e)) 0 i ∗ pay B (peer c i) (.inl e) i)) (fun _ => iprop(emp))
    (fun i l => signal_turn B K c e T i l))
  isplitr; · iexact HK
  isplitl [HO]; · iexact HO
  isplitl [Ht Hp]
  · iapply (Entails.of_eq (each_sep _ _).symm)
    isplitl [Ht]; · iexact Ht
    iexact Hp
  iintro ⟨HO, -⟩
  iapply Hk
  iapply (Entails.of_eq (OW_nil c T (oweH c e)))
  iexact HO

/-- The seven transfers of a kind, issued. -/
theorem sends_wp {β : Type} (c : Dev nD) (k : Kind') (O T : CellTallies nD τ sig Unit) (hO : O = T + due (oweR c k) turns)
    (p : Prog (Eff F) β) (Q : β → sProp 𝕄) :
    iprop(know B K ∗ OW c O ∗ toks c k ∗ (each fun i => sent B c k i) ∗ (each fun i => room (peer c i) c k i)
        ∗ ((OW c T ∗ each fun i => cred (tallyAt (kcell c (sendX k i)) () (N k.2))) -∗ Wp c p Q)) ⊢ Wp c (run7 (sendOp c k.1 k.2) p) Q := by
  subst hO
  unfold toks
  iintro ⟨#HK, HO, Ht, Hs, Hr, Hk⟩
  iapply (run7_wp c (sendOp c k.1 k.2) (know B K) (fun l => OW c (T + due (oweR c k) l))
    (fun i => iprop((dutyTok ER (kcell c (sendX k i)) 0 (0 : Fin 7) ∗ dutyTok ER (kcell (peer c i) (recvX k i)) 0 (0 : Fin 7))
      ∗ sent B c k i ∗ room (peer c i) c k i)) (fun i => cred (tallyAt (kcell c (sendX k i)) () (N k.2)))
    (fun i l => send_turn B K c k T i l))
  isplitr; · iexact HK
  isplitl [HO]; · iexact HO
  isplitl [Ht Hs Hr]
  · iapply (Entails.of_eq (each_sep _ _).symm)
    isplitl [Ht]; · iexact Ht
    iapply (Entails.of_eq (each_sep _ _).symm)
    isplitl [Hs]; · iexact Hs
    iexact Hr
  iintro ⟨HO, Hc⟩
  iapply Hk
  isplitl [HO]
  · iapply (Entails.of_eq (OW_nil c T (oweR c k)))
    iexact HO
  iexact Hc

/-- What turn `i`'s waits consume. -/
abbrev due2 (c : Dev nD) (k : Kind') (i : Fin 7) : sProp 𝕄 :=
  iprop((cred (tallyAt (kcell c (sendX k i)) () (N k.2)) ∗ atPos ER (kcell c (sendX k i)) 0 ∅ 0)
    ∗ (cred (tallyAt (kcell c (recvX k i)) () (N k.2)) ∗ atPos ER (kcell c (recvX k i)) 0 ∅ 0))

/-- The credits of a loop's sends with what its waits are made with, turn by turn. -/
theorem due2_of (c : Dev nD) (k : Kind') :
    iprop((each fun i => cred (tallyAt (kcell c (sendX k i)) () (N k.2))) ∗ posts (F := F) c k) ⊢ each fun i => due2 c k i := by
  unfold posts
  refine BIBase.Entails.trans (Entails.of_eq (each_sep _ _).symm) (bs_mono fun i => ?_)
  iintro ⟨H1, H2, H3, H4⟩
  isplitl [H1 H2]
  · isplitl [H1]; · iexact H1
    iexact H2
  isplitl [H4]; · iexact H4
  iexact H3

/-- Both cells of every turn of a kind at zero. -/
abbrev zeroK (c : Dev nD) (k : Kind') : sProp 𝕄 :=
  each fun i => iprop(semVal (kcell c (sendX k i)) 0 ∗ semVal (kcell c (recvX k i)) 0)

/-- What a loop's waits leave, sorted: what was sent, what has landed, the cells at zero. -/
theorem done_eq (c : Dev nD) (k : Kind') :
    (each fun i => done B c k i) = iprop((each fun i => sent B c k i) ∗ (each fun i => landed B c (peer c i) k i) ∗ zeroK c k) := by
  unfold done
  rw [each_sep, each_sep]

/-- The waits for a gather. -/
theorem waits_wp {β : Type} (c : Dev nD) (o : Option (Fin 2)) (O : CellTallies nD τ sig Unit) (hO : Above 3 O)
    (p : Prog (Eff F) β) (Q : β → sProp 𝕄) :
    iprop(know B K ∗ levAts L lv ∗ OW c O ∗ (each fun i => cred (tallyAt (kcell c (sendX (true, o) i)) () (N o))) ∗ posts c (true, o)
        ∗ ((OW c O ∗ (each fun i => sent B c (true, o) i) ∗ (each fun i => landed B c (peer c i) (true, o) i) ∗ zeroK c (true, o)) -∗ Wp c p Q))
      ⊢ Wp c (run7 (waitOp c true o) p) Q := by
  iintro ⟨#HK, #Hlev, HO, Hc, Hp, Hk⟩
  iapply (run7_wp c (waitOp c true o) iprop(know B K ∗ levAts L lv) (fun l => OW c O) (fun i => due2 c (true, o) i) (fun i => done B c (true, o) i)
    (fun i l => by
      refine BIBase.Entails.trans ?_ (wait_turn B K c (true, o) 3 (le_refl 3) O hO i)
      iintro ⟨⟨#HK, #Hlev⟩, HO, H1, H2⟩
      isplitr; · iexact HK
      isplitr; · iexact Hlev
      isplitl [HO]; · iexact HO
      isplitl [H1]; · iexact H1
      iexact H2))
  isplitr
  · isplitr; · iexact HK
    iexact Hlev
  isplitl [HO]; · iexact HO
  isplitl [Hc Hp]
  · iapply (due2_of c (true, o))
    isplitl [Hc]; · iexact Hc
    iexact Hp
  iintro ⟨HO, Hd⟩
  iapply Hk
  isplitl [HO]; · iexact HO
  iapply (Entails.of_eq (done_eq B c (true, o)))
  iexact Hd

/-- Turn `i` of the first scatter's end: what landed, read. -/
theorem takeA_turn (c : Dev nD) (O : CellTallies nD τ sig Unit) (hO : Above 2 O) (i : Fin 7) :
    iprop((know B K ∗ levAts L lv) ∗ OW c O ∗ due2 c (false, none) i)
      ⊢ Wp c (takeA c i) fun a => iprop(⌜a = gA B c i⌝ ∗ OW c O ∗ done B c (false, none) i) := by
  unfold takeA
  iintro ⟨⟨#HK, #Hlev⟩, HO, H1, H2⟩
  iapply (wp_seq c _ _ _ _ _ (wait_turn B K c (false, none) 2 (le_refl 2) O hO i))
  isplitl [HO H1 H2]
  · isplitr; · iexact HK
    isplitr; · iexact Hlev
    isplitl [HO]; · iexact HO
    isplitl [H1]; · iexact H1
    iexact H2
  iintro %u ⟨HO, Hd⟩
  unfold done
  rw [landed_scatA]
  icases Hd with ⟨Hs, Hl, Hz⟩
  unfold Prog.lift
  iapply (ld c arecvM (slotA i) one_stride)
  isplitl [Hl]; · iexact Hl
  iintro Hl
  iapply (wp_done c)
  isplitr; · ipureintro; rfl
  isplitl [HO]; · iexact HO
  isplitl [Hs]; · iexact Hs
  isplitl [Hl]; · iexact Hl
  iexact Hz

/-- Turn `i` of the end of plane `p`'s scatter. -/
theorem takeM_turn (c : Dev nD) (p : Fin 2) (O : CellTallies nD τ sig Unit) (hO : Above 2 O) (i : Fin 7) :
    iprop((know B K ∗ levAts L lv) ∗ OW c O ∗ due2 c (false, some p) i)
      ⊢ Wp c (takeM c p i) fun a => iprop(⌜a = gM B c p i⌝ ∗ OW c O ∗ done B c (false, some p) i) := by
  unfold takeM
  iintro ⟨⟨#HK, #Hlev⟩, HO, H1, H2⟩
  iapply (wp_seq c _ _ _ _ _ (wait_turn B K c (false, some p) 2 (le_refl 2) O hO i))
  isplitl [HO H1 H2]
  · isplitr; · iexact HK
    isplitr; · iexact Hlev
    isplitl [HO]; · iexact HO
    isplitl [H1]; · iexact H1
    iexact H2
  iintro %u ⟨HO, Hd⟩
  unfold done
  rw [landed_scatM]
  icases Hd with ⟨Hs, Hl, Hz⟩
  unfold Prog.lift
  iapply (ld c mrecvM (slotB p i) one_stride)
  isplitl [Hl]; · iexact Hl
  iintro Hl
  iapply (wp_done c)
  isplitr; · ipureintro; rfl
  isplitl [HO]; · iexact HO
  isplitl [Hs]; · iexact Hs
  isplitl [Hl]; · iexact Hl
  iexact Hz

/-- A scatter's end, for turns `f` that each wait for kind `k` and return `v`. -/
theorem takes_wp {α β : Type} (c : Dev nD) (k : Kind') (f : Fin 7 → Prog (Eff F) α) (v : Fin 7 → α) (O : CellTallies nD τ sig Unit)
    (h : ∀ i, iprop((know B K ∗ levAts L lv) ∗ OW c O ∗ due2 c k i) ⊢ Wp c (f i) fun a => iprop(⌜a = v i⌝ ∗ OW c O ∗ done B c k i))
    (p : (Fin 7 → α) → Prog (Eff F) β) (Q : β → sProp 𝕄) :
    iprop(know B K ∗ levAts L lv ∗ OW c O ∗ (each fun i => cred (tallyAt (kcell c (sendX k i)) () (N k.2))) ∗ posts c k
        ∗ ((OW c O ∗ (each fun i => sent B c k i) ∗ (each fun i => landed B c (peer c i) k i) ∗ zeroK c k) -∗ Wp c (p v) Q))
      ⊢ Wp c (seq7 f p) Q := by
  iintro ⟨#HK, #Hlev, HO, Hc, Hp, Hk⟩
  iapply (seq7_wp c f v iprop(know B K ∗ levAts L lv) (fun l => OW c O) (fun i => due2 c k i) (fun i => done B c k i) (fun i l => h i))
  isplitr
  · isplitr; · iexact HK
    iexact Hlev
  isplitl [HO]; · iexact HO
  isplitl [Hc Hp]
  · iapply (due2_of c k)
    isplitl [Hc]; · iexact Hc
    iexact Hp
  iintro ⟨HO, Hd⟩
  iapply Hk
  isplitl [HO]; · iexact HO
  iapply (Entails.of_eq (done_eq B c k))
  iexact Hd

/-! ## The first handshake's payloads -/

/-- Kind by kind, the regions of device `c` its peers' transfers land in, are what its signals hand over. -/
theorem hand_over (c : Dev nD) :
    iprop((each fun i => room c (peer c i) (false, none) i) ∗ (each fun i => room c (peer c i) (false, some 0) i)
        ∗ (each fun i => room c (peer c i) (false, some 1) i) ∗ (each fun i => room c (peer c i) (true, none) i)
        ∗ (each fun i => room c (peer c i) (true, some 0) i) ∗ (each fun i => room c (peer c i) (true, some 1) i))
      = each fun i => pay B (peer c i) (.inl false) i := by
  have h : ∀ i, pay B (peer c i) (.inl false) i = bigSep Finset.univ fun k : Kind' => room (F := F) c (peer c i) k i := fun i => by
    show (bigSep Finset.univ fun k : Kind' => room (peer (peer c i) i) (peer c i) k i) = _
    rw [peer_peer]
  rw [show (each fun i => pay B (peer c i) (.inl false) i) = each fun i => bigSep Finset.univ fun k : Kind' => room c (peer c i) k i from
    bigSep_congr fun i _ => h i]
  unfold each
  rw [bigSep_univ_comm, bigSep_kind]

/-- What device `c` is handed: kind by kind, the regions of its peers its transfers land in. -/
theorem handed (c : Dev nD) :
    (each fun i => pay B c (.inl false) i)
      = iprop((each fun i => room (peer c i) c (false, none) i) ∗ (each fun i => room (peer c i) c (false, some 0) i)
        ∗ (each fun i => room (peer c i) c (false, some 1) i) ∗ (each fun i => room (peer c i) c (true, none) i)
        ∗ (each fun i => room (peer c i) c (true, some 0) i) ∗ (each fun i => room (peer c i) c (true, some 1) i)) := by
  show (bigSep Finset.univ fun i => bigSep Finset.univ fun k : Kind' => room (F := F) (peer c i) c k i) = _
  rw [bigSep_univ_comm, bigSep_kind]

end Cert.Mesh
-- ==== Proof.Run.lean ====
/-
# The run of one device

The whole body on device `c`: from the ghost state of the launch, the staged blocks, the result's buffer and the scratch
buffers, to the result written, everything else back, and every cell at zero.
-/
module

public import proofs.«01_k».proof.Proof.Body

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Dev nD → Blocks F) (K : Dev nD × Cx → ℕ)

/-- The staged blocks of device `c`. -/
def ins (c : Dev nD) : sProp 𝕄 :=
  iprop(ow c xM (B c).x ∗ ow c w0M (B c).w0 ∗ ow c o0M (B c).o0 ∗ ow c w1M (B c).w1 ∗ ow c o1M (B c).o1 ∗ ow c w2M (B c).w2 ∗ ow c o2M (B c).o2)
/-- The scratch buffers of device `c`, at any contents. -/
def scr (c : Dev nD) : sProp 𝕄 :=
  iprop(anyOf c partM ∗ anyOf c hsM ∗ anyOf c hfullM ∗ anyOf c arecvM ∗ anyOf c mbufM ∗ anyOf c msM ∗ anyOf c mrecvM ∗ anyOf c mfullM)
/-- Every cell of device `c` at zero. -/
def zeros (c : Dev nD) : sProp 𝕄 :=
  iprop(semVal (kcell c (.inl false)) 0 ∗ semVal (kcell c (.inl true)) 0 ∗ bigSep Finset.univ fun k : Kind' => zeroK c k)
/-- What the body leaves. -/
def bodyOut (c : Dev nD) : sProp 𝕄 :=
  iprop(OW c 0 ∗ ins B c ∗ ow c outM (result B c) ∗ scr c ∗ zeros c)

/-- The body's run on device `c`: from what it starts from, its blocks and the scratch buffers, to what it leaves. -/
theorem loopBody_wp (c : Dev nD) (Q : PUnit → sProp 𝕄) :
    iprop(start B c ∗ OW c (owed c) ∗ ins B c ∗ anyOf c outM ∗ scr c ∗ (bodyOut B c -∗ Q ⟨⟩)) ⊢ Wp c (loopBody c) Q := by
  unfold loopBody start hand ins scr
  rw [bigSep_kind]
  iintro ⟨⟨⟨%K, #HK⟩, ⟨HtH, HaH, HcH⟩, ⟨HtE, HaE, HcE⟩, ⟨⟨TA, PA⟩, ⟨T0, P0⟩, ⟨T1, P1⟩, ⟨TGA, PGA⟩, ⟨TG0, PG0⟩, ⟨TG1, PG1⟩⟩, #Hlev⟩, HO,
    ⟨Hx, Hw0, Ho0, Hw1, Ho1, Hw2, Ho2⟩, Hout, ⟨Hpart, Hhs, Hhf, Har, Hmb, Hms, Hmr, Hmf⟩, Hend⟩
  -- the rooms handed over, the own rows kept
  ihave RA := (rooms_scatA c) $$ Har
  ihave RM := (rooms_scatM c) $$ Hmr
  icases RM with ⟨R0, R1⟩
  ihave RG := (rooms_gathA c) $$ Hhf
  icases RG with ⟨Ohf, RGA⟩
  ihave MF := (planes_cut c mfullM) $$ Hmf
  icases MF with ⟨MF0, MF1⟩
  ihave MG0 := (rooms_plane c 0) $$ MF0
  icases MG0 with ⟨Omf0, RG0⟩
  ihave MG1 := (rooms_plane c 1) $$ MF1
  icases MG1 with ⟨Omf1, RG1⟩
  ihave MB := (planes_cut c mbufM) $$ Hmb
  icases MB with ⟨MB0, MB1⟩
  ihave MS := (planesS_cut c) $$ Hms
  icases MS with ⟨MS0, MS1⟩
  -- the first handshake
  iapply (signals_wp B K c false (owed c) (O0 c) rfl)
  isplitr; · iexact HK
  isplitl [HO]; · iexact HO
  isplitl [HtH]; · iexact HtH
  isplitl [RA R0 R1 RGA RG0 RG1]
  · iapply (Entails.of_eq (hand_over B c))
    isplitl [RA]; · iexact RA
    isplitl [R0]; · iexact R0
    isplitl [R1]; · iexact R1
    isplitl [RGA]; · iexact RGA
    isplitl [RG0]; · iexact RG0
    iexact RG1
  iintro HO
  iapply (wp_seq c _ _ _ _ _ (hand_wait B K c false 1 (le_refl 1) (O0 c) (above_O0 c)))
  isplitl [HO HaH HcH]
  · isplitr; · iexact HK
    isplitr; · iexact Hlev
    isplitl [HO]; · iexact HO
    isplitl [HaH]; · iexact HaH
    iexact HcH
  iintro %u ⟨HO, Hpay, ZH⟩
  ihave Hpay := (Entails.of_eq (handed B c)) $$ Hpay
  icases Hpay with ⟨RA, R0, R1, RGA, RG0, RG1⟩
  -- the first product, scattered
  iapply (wp_seq c _ _ _ _ _ (firstOp_wp B c))
  isplitl [Hx Hw0 Hpart]
  · isplitl [Hx]; · iexact Hx
    isplitl [Hw0]; · iexact Hw0
    iexact Hpart
  iintro %u1 ⟨Hx, Hw0, Hpart⟩
  ihave Hpart := (Entails.of_eq (sent_scatA B c)) $$ Hpart
  icases Hpart with ⟨Opart, SA⟩
  iapply (sends_wp B K c (false, none) (O0 c) (O1 c) rfl)
  isplitr; · iexact HK
  isplitl [HO]; · iexact HO
  isplitl [TA]; · iexact TA
  isplitl [SA]; · iexact SA
  isplitl [RA]; · iexact RA
  iintro ⟨HO, CA⟩
  -- the products of weights, scattered
  iapply (wp_seq c _ _ _ _ _ (weightsOp_wp B c))
  isplitl [Ho0 Hw1 Ho1 Hw2 MB0 MB1]
  · isplitl [Ho0 Hw1 Ho1 Hw2]
    · isplitl [Ho0]; · iexact Ho0
      isplitl [Hw1]; · iexact Hw1
      isplitl [Ho1]; · iexact Ho1
      iexact Hw2
    isplitl [MB0]; · iexact MB0
    iexact MB1
  iintro %u2 ⟨⟨Ho0, Hw1, Ho1, Hw2⟩, MB0, MB1⟩
  ihave MB0 := (Entails.of_eq (sent_scatM B c 0)) $$ MB0
  icases MB0 with ⟨Omb0, S0⟩
  ihave MB1 := (Entails.of_eq (sent_scatM B c 1)) $$ MB1
  icases MB1 with ⟨Omb1, S1⟩
  iapply (sends_wp B K c (false, some 0) (O1 c) (O2 c) rfl)
  isplitr; · iexact HK
  isplitl [HO]; · iexact HO
  isplitl [T0]; · iexact T0
  isplitl [S0]; · iexact S0
  isplitl [R0]; · iexact R0
  iintro ⟨HO, C0⟩
  iapply (sends_wp B K c (false, some 1) (O2 c) (O3 c) rfl)
  isplitr; · iexact HK
  isplitl [HO]; · iexact HO
  isplitl [T1]; · iexact T1
  isplitl [S1]; · iexact S1
  isplitl [R1]; · iexact R1
  iintro ⟨HO, C1⟩
  -- the first scatter's end: the activation's rows, gathered
  iapply (wp_seq c _ _ _ _ _ (ownA_wp c (vA B c)))
  isplitl [Opart]; · iexact Opart
  iintro %v ⟨%hv, Opart⟩
  subst hv
  iapply (takes_wp B K c (false, none) (takeA c) (gA B c) (O3 c) (takeA_turn B K c (O3 c) (above_O3 c)))
  isplitr; · iexact HK
  isplitr; · iexact Hlev
  isplitl [HO]; · iexact HO
  isplitl [CA]; · iexact CA
  isplitl [PA]; · iexact PA
  iintro ⟨HO, SA, LA, ZA⟩
  iapply (wp_seq c _ _ _ _ _ (putHs_wp c (hs B c)))
  isplitl [Hhs]; · iexact Hhs
  iintro %u3 Hhs
  ihave SGA := (Entails.of_eq (sent_gathA B c)) $$ Hhs
  iapply (sends_wp B K c (true, none) (O3 c) (O4 c) rfl)
  isplitr; · iexact HK
  isplitl [HO]; · iexact HO
  isplitl [TGA]; · iexact TGA
  isplitl [SGA]; · iexact SGA
  isplitl [RGA]; · iexact RGA
  iintro ⟨HO, CGA⟩
  rw [hs_own]
  iapply (wp_seq c _ _ _ _ _ (putHf_wp c (hs B c)))
  isplitl [Ohf]; · iexact Ohf
  iintro %u4 Ohf
  -- plane 0
  iapply (wp_seq c _ _ _ _ _ (ownM_wp c 0 (vM B c 0)))
  isplitl [Omb0]; · iexact Omb0
  iintro %v ⟨%hv, Omb0⟩
  subst hv
  iapply (takes_wp B K c (false, some 0) (takeM c 0) (gM B c 0) (O4 c) (takeM_turn B K c 0 (O4 c) (above_O4 c)))
  isplitr; · iexact HK
  isplitr; · iexact Hlev
  isplitl [HO]; · iexact HO
  isplitl [C0]; · iexact C0
  isplitl [P0]; · iexact P0
  iintro ⟨HO, S0, L0, Z0⟩
  iapply (wp_seq c _ _ _ _ _ (putMs_wp c 0 (ms B c 0)))
  isplitl [MS0]; · iexact MS0
  iintro %u5 MS0
  ihave SG0 := (Entails.of_eq (sent_gathM B c 0)) $$ MS0
  iapply (sends_wp B K c (true, some 0) (O4 c) (O5 c) rfl)
  isplitr; · iexact HK
  isplitl [HO]; · iexact HO
  isplitl [TG0]; · iexact TG0
  isplitl [SG0]; · iexact SG0
  isplitl [RG0]; · iexact RG0
  iintro ⟨HO, CG0⟩
  rw [ms_own0]
  iapply (wp_seq c _ _ _ _ _ (putMf_wp c 0 (ms B c 0)))
  isplitl [Omf0]; · iexact Omf0
  iintro %u6 Omf0
  -- plane 1
  iapply (wp_seq c _ _ _ _ _ (ownM_wp c 1 (vM B c 1)))
  isplitl [Omb1]; · iexact Omb1
  iintro %v ⟨%hv, Omb1⟩
  subst hv
  iapply (takes_wp B K c (false, some 1) (takeM c 1) (gM B c 1) (O5 c) (takeM_turn B K c 1 (O5 c) (above_O5 c)))
  isplitr; · iexact HK
  isplitr; · iexact Hlev
  isplitl [HO]; · iexact HO
  isplitl [C1]; · iexact C1
  isplitl [P1]; · iexact P1
  iintro ⟨HO, S1, L1, Z1⟩
  iapply (wp_seq c _ _ _ _ _ (putMs_wp c 1 (ms B c 1)))
  isplitl [MS1]; · iexact MS1
  iintro %u7 MS1
  ihave SG1 := (Entails.of_eq (sent_gathM B c 1)) $$ MS1
  iapply (sends_wp B K c (true, some 1) (O5 c) (O6 c) rfl)
  isplitr; · iexact HK
  isplitl [HO]; · iexact HO
  isplitl [TG1]; · iexact TG1
  isplitl [SG1]; · iexact SG1
  isplitl [RG1]; · iexact RG1
  iintro ⟨HO, CG1⟩
  rw [ms_own1]
  iapply (wp_seq c _ _ _ _ _ (putMf_wp c 1 (ms B c 1)))
  isplitl [Omf1]; · iexact Omf1
  iintro %u8 Omf1
  -- the gathers' ends
  iapply (waits_wp B K c none (O6 c) (above_O6 c))
  isplitr; · iexact HK
  isplitr; · iexact Hlev
  isplitl [HO]; · iexact HO
  isplitl [CGA]; · iexact CGA
  isplitl [PGA]; · iexact PGA
  iintro ⟨HO, SGA, LGA, ZGA⟩
  iapply (wp_seq c _ _ _ _ _ (getHf_wp c (hAll B)))
  isplitl [Ohf LGA]
  · iapply (Entails.of_eq (landed_gathA B c))
    isplitl [Ohf]; · iexact Ohf
    iexact LGA
  iintro %h ⟨%hh, Hhf⟩
  subst hh
  iapply (waits_wp B K c (some 0) (O6 c) (above_O6 c))
  isplitr; · iexact HK
  isplitr; · iexact Hlev
  isplitl [HO]; · iexact HO
  isplitl [CG0]; · iexact CG0
  isplitl [PG0]; · iexact PG0
  iintro ⟨HO, SG0, LG0, ZG0⟩
  iapply (wp_seq c _ _ _ _ _ (getMf_wp c 0 (mPlane B 0)))
  isplitl [Omf0 LG0]
  · iapply (Entails.of_eq (landed_gathM B c 0))
    isplitl [Omf0]; · iexact Omf0
    iexact LG0
  iintro %m0 ⟨%hm0, MF0⟩
  subst hm0
  iapply (waits_wp B K c (some 1) (O6 c) (above_O6 c))
  isplitr; · iexact HK
  isplitr; · iexact Hlev
  isplitl [HO]; · iexact HO
  isplitl [CG1]; · iexact CG1
  isplitl [PG1]; · iexact PG1
  iintro ⟨HO, SG1, LG1, ZG1⟩
  iapply (wp_seq c _ _ _ _ _ (getMf_wp c 1 (mPlane B 1)))
  isplitl [Omf1 LG1]
  · iapply (Entails.of_eq (landed_gathM B c 1))
    isplitl [Omf1]; · iexact Omf1
    iexact LG1
  iintro %m1 ⟨%hm1, MF1⟩
  subst hm1
  -- the last product
  iapply (wp_seq c _ _ _ _ _ (lastOp_wp B c))
  isplitl [Ho2 Hout]
  · isplitl [Ho2]; · iexact Ho2
    iexact Hout
  iintro %u9 ⟨Ho2, Hout⟩
  -- the last handshake
  iapply (signals_wp B K c true (O6 c) 0 (zero_add _).symm)
  isplitr; · iexact HK
  isplitl [HO]; · iexact HO
  isplitl [HtE]; · iexact HtE
  isplitr
  · iapply (Entails.of_eq (show (each fun i => pay B (peer c i) (.inl true) i) = iprop(emp) from bigSep_emp_const _).symm)
    iempintro
  iintro HO
  iapply (wp_seq c _ _ _ _ _ (hand_wait B K c true 4 (le_refl 4) 0 (above_zero 4)))
  isplitl [HO HaE HcE]
  · isplitr; · iexact HK
    isplitr; · iexact Hlev
    isplitl [HO]; · iexact HO
    isplitl [HaE]; · iexact HaE
    iexact HcE
  iintro %u10 ⟨HO, -, ZE⟩
  iapply (wp_done c)
  iapply Hend
  unfold bodyOut ins scr zeros
  rw [bigSep_kind]
  isplitl [HO]; · iexact HO
  isplitl [Hx Hw0 Ho0 Hw1 Ho1 Hw2 Ho2]
  · isplitl [Hx]; · iexact Hx
    isplitl [Hw0]; · iexact Hw0
    isplitl [Ho0]; · iexact Ho0
    isplitl [Hw1]; · iexact Hw1
    isplitl [Ho1]; · iexact Ho1
    isplitl [Hw2]; · iexact Hw2
    iexact Ho2
  isplitl [Hout]; · iexact Hout
  isplitr [ZH ZE ZA Z0 Z1 ZGA ZG0 ZG1]
  · isplitl [Opart SA]
    · iapply (any_of c partM (part B c))
      iapply (Entails.of_eq (sent_scatA B c).symm)
      isplitl [Opart]; · iexact Opart
      iexact SA
    isplitl [SGA]
    · iapply (any_of c hsM (hs B c))
      iapply (Entails.of_eq (sent_gathA B c).symm)
      iexact SGA
    isplitl [Hhf]; · iapply (any_of c hfullM (hAll B)); iexact Hhf
    isplitl [LA]; · iapply (back_scatA B c); iexact LA
    isplitl [Omb0 S0 Omb1 S1]
    · iapply (planes_glue c mbufM)
      isplitl [Omb0 S0]
      · iapply (any_of c (mbufM.slice (planeM 0) one_stride) (plane B c 0))
        iapply (Entails.of_eq (sent_scatM B c 0).symm)
        isplitl [Omb0]; · iexact Omb0
        iexact S0
      iapply (any_of c (mbufM.slice (planeM 1) one_stride) (plane B c 1))
      iapply (Entails.of_eq (sent_scatM B c 1).symm)
      isplitl [Omb1]; · iexact Omb1
      iexact S1
    isplitl [SG0 SG1]
    · iapply (planesS_glue c)
      isplitl [SG0]
      · iapply (any_of c (msM.slice (planeS 0) one_stride) (ms B c 0))
        iapply (Entails.of_eq (sent_gathM B c 0).symm)
        iexact SG0
      iapply (any_of c (msM.slice (planeS 1) one_stride) (ms B c 1))
      iapply (Entails.of_eq (sent_gathM B c 1).symm)
      iexact SG1
    isplitl [L0 L1]
    · iapply (back_scatM B c)
      isplitl [L0]; · iexact L0
      iexact L1
    iapply (planes_glue c mfullM)
    isplitl [MF0]
    · iapply (any_of c (mfullM.slice (planeM 0) one_stride) (mPlane B 0)); iexact MF0
    iapply (any_of c (mfullM.slice (planeM 1) one_stride) (mPlane B 1)); iexact MF1
  isplitl [ZH]; · iexact ZH
  isplitl [ZE]; · iexact ZE
  isplitl [ZA]; · iexact ZA
  isplitl [Z0]; · iexact Z0
  isplitl [Z1]; · iexact Z1
  isplitl [ZGA]; · iexact ZGA
  isplitl [ZG0]; · iexact ZG0
  iexact ZG1

end Cert.Mesh
-- ==== Proof.Deal.lean ====
/-
# What each device is dealt at launch

The protocol's cells are every device's 86. Their ghost state is minted at once, their invariants allocated from the
semaphores at zero, and each cell's tokens dealt to the devices that pay it; every device's credit at a cell is what the
other devices owe there.
-/
module

public import proofs.«01_k».proof.Proof.Run
public import proofs.«01_k».proof.Proof.Gen.KernelIdeal.Launch

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (B : Dev nD → Blocks F)

/-! ## The cells of a device, kind by kind -/

/-- A statement of every cell of a device: of the two handshakes', then per kind and turn of the source's and the landing's. -/
theorem bigSep_cells (Φ : Cx → sProp 𝕄) :
    bigSep Finset.univ Φ = iprop((Φ (.inl false) ∗ Φ (.inl true))
      ∗ (bigSep Finset.univ fun k : Kind' => bigSep Finset.univ fun i => Φ (sendX k i))
      ∗ bigSep Finset.univ fun k : Kind' => bigSep Finset.univ fun i => Φ (recvX k i)) := by
  rw [bigSep_univ_sum, bigSep_univ_prod, bigSep_univ_eq_bigSepL [false, true] (by decide) (by decide),
    bigSep_univ_eq_bigSepL [false, true] (by decide) (by decide),
    bigSep_univ_prod (fun k : Kind' => bigSep Finset.univ fun i => Φ (sendX k i)),
    bigSep_univ_prod (fun k : Kind' => bigSep Finset.univ fun i => Φ (recvX k i))]
  have e : ∀ b : Bool, (bigSep Finset.univ fun y : Bool × Option (Fin 2) × Fin 7 => Φ (.inr (b, y)))
      = bigSep Finset.univ fun g : Bool => bigSep Finset.univ fun o : Option (Fin 2) => bigSep Finset.univ fun i : Fin 7 => Φ (.inr (b, g, o, i)) := by
    intro b
    rw [bigSep_univ_prod]
    exact bigSep_congr fun g _ => bigSep_univ_prod _
  show iprop((Φ (.inl false) ∗ Φ (.inl true))
      ∗ (bigSep Finset.univ fun y : Bool × Option (Fin 2) × Fin 7 => Φ (.inr (false, y)))
      ∗ bigSep Finset.univ fun y : Bool × Option (Fin 2) × Fin 7 => Φ (.inr (true, y))) = _
  rw [e, e]

/-- What every device holds of its peers' turns, said from the other end. -/
theorem around (T : Dev nD → Fin 7 → sProp 𝕄) :
    (bigSep Finset.univ fun c : Dev nD => bigSep Finset.univ fun i => T c i)
      = bigSep Finset.univ fun c : Dev nD => bigSep Finset.univ fun i => T (peer c i) i := by
  rw [Pipeline.bigSep_univ_comm, Pipeline.bigSep_univ_comm (fun (c : Dev nD) (i : Fin 7) => T (peer c i) i)]
  refine bigSep_congr fun i _ => ?_
  exact bigSep_univ_equiv ⟨fun c => peer c i, fun c => peer c i, fun c => peer_peer c i, fun c => peer_peer c i⟩ _

/-! ## The mint -/

/-- Different cells are at different semaphores. -/
theorem kcell_inj : Function.Injective fun x : Dev nD × Cx => kcell x.1 x.2 := by
  rintro ⟨c, x⟩ ⟨c', x'⟩ h
  have h1 : c = c' := congrArg (fun g : GSem nD τ sig => g.1.1) h
  have h2 : csem x = csem x' := congrArg Prod.snd h
  rw [h1, csem_inj h2]
/-- Two cells are one exactly when device and name agree. -/
theorem kcell_eq_iff {c c' : Dev nD} {x x' : Cx} : Iff (kcell c x = kcell c' x') (c = c' ∧ x = x') :=
  ⟨fun h => Prod.mk.injEq _ _ _ _ ▸ kcell_inj (a₁ := (c, x)) (a₂ := (c', x')) h, fun h => by rw [h.1, h.2]⟩

/-- All the cells. -/
def allCells : Finset (GSem nD τ sig) := Finset.univ.map ⟨fun x : Dev nD × Cx => kcell x.1 x.2, kcell_inj⟩
/-- A token: which cell's, which duty's. -/
def tokOf (x : Dev nD × Cx × Fin 7) : GSem nD τ sig × ℕ × Fin 7 := (kcell x.1 x.2.1, 0, x.2.2)
/-- Different duties have different tokens. -/
theorem tokOf_inj : Function.Injective tokOf := by
  rintro ⟨c, x, i⟩ ⟨c', x', i'⟩ h
  have h1 := kcell_eq_iff.mp (congrArg (fun y : GSem nD τ sig × ℕ × Fin 7 => y.1) h)
  have h2 : i = i' := congrArg (fun y : GSem nD τ sig × ℕ × Fin 7 => y.2.2) h
  exact Prod.ext h1.1 (Prod.ext h1.2 h2)
/-- All the tokens: per cell one per turn. -/
def allToks : Finset (GSem nD τ sig × ℕ × Fin 7) := Finset.univ.map ⟨tokOf, tokOf_inj⟩

/-- The ghost state minted: the pipeline's, and the protocol's. -/
def u₀ : UU := (initOf (Pipeline.cells cfgs cellOf_inj) (Pipeline.launchToks cfgs cellOf_inj), initOf allCells allToks)

/-- The tokens of device `c`'s own cells. -/
def ownToks (c : Dev nD) : sProp 𝕄 := bigSep Finset.univ fun x : Cx => bigSep Finset.univ fun i : Fin 7 => dutyTok ER (kcell c x) 0 i
/-- The positions at device `c`'s cells. -/
def posns (c : Dev nD) : sProp 𝕄 := bigSep Finset.univ fun x : Cx => atPos ER (kcell c x) 0 ∅ 0
/-- What the mint deals device `c`. -/
def mint (c : Dev nD) : sProp 𝕄 :=
  iprop((bigSep Finset.univ fun x : Cx => roundState ER (Rd B) (kcell c x) 0) ∗ posns c
    ∗ (bigSep Finset.univ fun x : Cx => reached ER (kcell c x) 0) ∗ ownToks c)

/-- The protocol's minted ghost state is what each device is dealt of it. -/
theorem fund_cells : BI.own (ER (initOf allCells allToks)) ⊢ (|==> bigSep Finset.univ (mint B) : sProp 𝕄) := by
  have hX (Φ : GSem nD τ sig → sProp 𝕄) : bigSep allCells Φ = bigSep Finset.univ fun c : Dev nD => bigSep Finset.univ fun x : Cx => Φ (kcell c x) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks ownToks; rw [bigSep_map, bigSep_univ_prod]
    exact bigSep_congr fun c _ => by rw [bigSep_univ_prod]; rfl
  iintro HX
  imod (Rounds.fund ER (Rd B) allCells allToks) $$ HX with ⟨Hst, Hr, Hat, Htok⟩
  imodintro
  ihave Hst' := (BIBase.Entails.of_eq (hX fun g => roundState ER (Rd B) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold mint posns; simp only [bigSep_sep']
  isplitl [Hst']; · iexact Hst'
  isplitl [Hat']; · iexact Hat'
  isplitl [Hr']; · iexact Hr'
  iexact Htok'

/-! ## The semaphores at zero -/

/-- The kernel's own semaphores: the exit handshake's, and the transfers'. -/
def osem : Unit ⊕ (Bool × Bool × Option (Fin 2) × Fin 7) → SemLoc sig
  | .inl _ => csem (.inl true)
  | .inr x => csem (.inr x)

/-- The kernel's own semaphores are scoped ones and pairwise different, and none is the pipeline's. -/
theorem ownSemFacts : Pipeline.OwnSemFacts cfg0.spec osem := by decide +kernel

/-- The kernel's own semaphores at zero are the exit handshake's and the transfers' cells at zero. -/
theorem ownSems0_eq (c : Dev nD) : (Pipeline.ownSems0 (Ix := Unit) (Name := ℕ) (U := UU) (Lvl := ℕ) (Val := Elt F) (τ := τ) osem c : sProp 𝕄)
    = iprop(semVal (kcell c (.inl true)) 0 ∗ bigSep Finset.univ fun x => semVal (kcell c (.inr x)) 0) := by
  unfold Pipeline.ownSems0
  rw [bigSep_univ_sum, bigSep_univ_eq_bigSepL [()] (by decide) (by decide)]
  rfl
/-- The only semaphore the kernel does not allocate is the entry handshake's. -/
theorem unscopedSems0_eq (c : Dev nD) : (unscopedSems0 c : sProp 𝕄) = semVal (kcell c (.inl false)) 0 := by
  unfold unscopedSems0; rw [bigSep_eq_bigSepL_of_eq [SemLoc.reg barS] (by decide +kernel) (by decide)]; rfl

/-- All the semaphores of a device at zero are all its cells at zero. -/
theorem sems0_eq (c : Dev nD) :
    (iprop(Pipeline.ownSems0 (Ix := Unit) (Name := ℕ) (U := UU) (Lvl := ℕ) (Val := Elt F) (τ := τ) osem c ∗ unscopedSems0 c) : sProp 𝕄)
      ⊢ bigSep Finset.univ fun x : Cx => semVal (kcell c x) 0 := by
  rw [ownSems0_eq, unscopedSems0_eq, bigSep_univ_sum, bigSep_univ_eq_bigSepL [false, true] (by decide) (by decide)]
  show _ ⊢ iprop((semVal (kcell c (.inl false)) 0 ∗ semVal (kcell c (.inl true)) 0) ∗ bigSep Finset.univ fun x => semVal (kcell c (.inr x)) 0)
  iintro ⟨⟨HE, HD⟩, HB⟩
  isplitl [HB HE]
  · isplitl [HB] <;> iassumption
  iexact HD

/-- All a device's cells at zero are its own semaphores and the barrier's at zero. -/
theorem zeros_exit (c : Dev nD) :
    (zeros c : sProp 𝕄) ⊢ iprop(unscopedSems0 c ∗ Pipeline.ownSems0 (Ix := Unit) (Name := ℕ) (U := UU) (Lvl := ℕ) (Val := Elt F) (τ := τ) osem c) := by
  have h : (bigSep Finset.univ fun x : Cx => (semVal (kcell c x) 0 : sProp 𝕄))
      = iprop((semVal (kcell c (.inl false)) 0 ∗ semVal (kcell c (.inl true)) 0) ∗ bigSep Finset.univ fun x => semVal (kcell c (.inr x)) 0) := by
    rw [bigSep_univ_sum, bigSep_univ_eq_bigSepL [false, true] (by decide) (by decide)]; rfl
  have h' := (bigSep_cells (F := F) fun x : Cx => semVal (kcell c x) 0).symm.trans h
  rw [ownSems0_eq, unscopedSems0_eq]
  unfold zeros zeroK each
  simp only [bigSep_sep']
  iintro ⟨HB, HE, HS, HR⟩
  ihave H := (BIBase.Entails.of_eq h') $$ [HB HE HS HR]
  · isplitl [HB HE]
    · isplitl [HB] <;> iassumption
    isplitl [HS] <;> iassumption
  icases H with ⟨⟨HB, HE⟩, HD⟩
  isplitl [HB]; · iexact HB
  isplitl [HE] <;> iassumption

/-- From its semaphores at zero and what it is dealt, a device puts the invariant of each of its cells in place. -/
theorem core_alloc (c : Dev nD) :
    iprop(Pipeline.ownSems0 (Ix := Unit) (Name := ℕ) (U := UU) (Lvl := ℕ) (Val := Elt F) (τ := τ) osem c ∗ unscopedSems0 c ∗ mint B c)
      ⊢ |={Set.univ}=> iprop((bigSep Finset.univ fun x : Cx => iprop(∃ κ : ℕ, cellInv ER (Rd B) κ (kcell c x))) ∗ posns c
          ∗ (bigSep Finset.univ fun x : Cx => reached ER (kcell c x) 0) ∗ ownToks c) := by
  unfold mint
  iintro ⟨Hos, Hus, Hst, Hat, Hr, Htok⟩
  ihave Hv := (sems0_eq (F := F) c) $$ [Hos Hus]
  · isplitl [Hos] <;> iassumption
  imod (show iprop((bigSep Finset.univ fun x : Cx => semVal (kcell c x) 0) ∗ bigSep Finset.univ fun x : Cx => roundState ER (Rd B) (kcell c x) 0)
      ⊢ (|={Set.univ}=> bigSep Finset.univ fun x : Cx => iprop(∃ κ : ℕ, cellInv ER (Rd B) κ (kcell c x)) : sProp 𝕄) from by
        rw [← bigSep_sep']
        exact (bigSep_mono fun x _ => (Rounds.body_intro ER (Rd B) (kcell c x)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## The deal -/

/-- The tokens device `c` pays with. -/
def payToks (c : Dev nD) : sProp 𝕄 :=
  iprop(((bigSep Finset.univ fun i => dutyTok ER (kcell (peer c i) (.inl false)) 0 i) ∗ bigSep Finset.univ fun i => dutyTok ER (kcell (peer c i) (.inl true)) 0 i)
    ∗ bigSep Finset.univ fun k : Kind' => toks c k)

/-- Of a cell's tokens, one per turn, the first. -/
theorem one_token (c : Dev nD) (x : Cx) : (bigSep Finset.univ fun i : Fin 7 => dutyTok ER (kcell c x) 0 i : sProp 𝕄) ⊢ dutyTok ER (kcell c x) 0 (0 : Fin 7) :=
  bigSep_elim (Finset.mem_univ _)

/-- Every cell's tokens go to the devices that pay it. -/
theorem toks_dealt : (bigSep Finset.univ fun c : Dev nD => (ownToks c : sProp 𝕄)) ⊢ bigSep Finset.univ fun c : Dev nD => payToks c := by
  have hr : ∀ k : Kind', (bigSep Finset.univ fun c : Dev nD => bigSep Finset.univ fun i : Fin 7 => (dutyTok ER (kcell c (recvX k i)) 0 (0 : Fin 7) : sProp 𝕄))
      = bigSep Finset.univ fun c : Dev nD => bigSep Finset.univ fun i : Fin 7 => dutyTok ER (kcell (peer c i) (recvX k i)) 0 (0 : Fin 7) :=
    fun k => around fun c i => dutyTok ER (kcell c (recvX k i)) 0 (0 : Fin 7)
  have h1 : (bigSep Finset.univ fun c : Dev nD => (ownToks c : sProp 𝕄)) ⊢ bigSep Finset.univ fun c : Dev nD =>
      iprop(((bigSep Finset.univ fun i => dutyTok ER (kcell c (.inl false)) 0 i) ∗ bigSep Finset.univ fun i => dutyTok ER (kcell c (.inl true)) 0 i)
        ∗ (bigSep Finset.univ fun k : Kind' => bigSep Finset.univ fun i : Fin 7 => dutyTok ER (kcell c (sendX k i)) 0 (0 : Fin 7))
        ∗ bigSep Finset.univ fun k : Kind' => bigSep Finset.univ fun i : Fin 7 => dutyTok ER (kcell c (recvX k i)) 0 (0 : Fin 7)) :=
    bs_mono fun c => by
      unfold ownToks
      rw [bigSep_cells]
      exact pair_mono BIBase.Entails.refl (pair_mono (bs_mono fun k => bs_mono fun i => one_token c _) (bs_mono fun k => bs_mono fun i => one_token c _))
  refine h1.trans (BIBase.Entails.of_eq ?_)
  unfold payToks toks
  simp only [bigSep_sep']
  rw [around (fun (c : Dev nD) (i : Fin 7) => (dutyTok ER (kcell c (.inl false)) 0 i : sProp 𝕄)),
    around (fun (c : Dev nD) (i : Fin 7) => (dutyTok ER (kcell c (.inl true)) 0 i : sProp 𝕄)),
    Pipeline.bigSep_univ_comm (fun (c : Dev nD) (k : Kind') => (bigSep Finset.univ fun i : Fin 7 => dutyTok ER (kcell c (recvX k i)) 0 (0 : Fin 7) : sProp 𝕄)),
    bigSep_congr (s := Finset.univ) (fun k _ => hr k),
    Pipeline.bigSep_univ_comm (fun (k : Kind') (c : Dev nD) => (bigSep Finset.univ fun i : Fin 7 => dutyTok ER (kcell (peer c i) (recvX k i)) 0 (0 : Fin 7) : sProp 𝕄))]

/-- What the global step makes of it for device `c`. -/
def dealt (c : Dev nD) : sProp 𝕄 := iprop((∃ K, know B K) ∗ posns c ∗ payToks c)

/-- A persistent fact may be used at every member of a conjunction. -/
theorem bs_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All the devices' invariants become known to each, and every token goes to the device that pays with it. -/
theorem regroup :
    (bigSep Finset.univ fun c : Dev nD => iprop((bigSep Finset.univ fun x : Cx => iprop(∃ κ : ℕ, cellInv ER (Rd B) κ (kcell c x))) ∗ posns c
          ∗ (bigSep Finset.univ fun x : Cx => reached ER (kcell c x) 0) ∗ ownToks c) : sProp 𝕄)
      ⊢ bigSep Finset.univ (dealt B) := by
  classical
  rw [bigSep_sep', bigSep_sep', bigSep_sep', ← bigSep_univ_prod (fun x : Dev nD × Cx => iprop(∃ κ : ℕ, cellInv ER (Rd B) κ (kcell x.1 x.2))),
    ← bigSep_univ_prod (fun x : Dev nD × Cx => (reached ER (kcell x.1 x.2) 0 : sProp 𝕄))]
  iintro ⟨HI, Hat, #HR, Htok⟩
  ihave HK := (BI.bigSep_exists_pi Finset.univ (fun (x : Dev nD × Cx) (κ : ℕ) => (cellInv ER (Rd B) κ (kcell x.1 x.2) : sProp 𝕄))) $$ HI
  icases HK with ⟨%K, #HI⟩
  ihave Htk := (toks_dealt (F := F)) $$ Htok
  iapply (bs_with (R := know B K) (Φ := fun c => iprop(posns c ∗ payToks c)) fun c _ => by
    unfold dealt
    iintro ⟨#H, Ha, Ht⟩
    isplitr; · iexists K; iexact H
    isplitl [Ha] <;> iassumption)
  isplitr
  · unfold know; rw [bigSep_sep']
    isplitl; · iexact HI
    iexact HR
  · rw [bigSep_sep']
    isplitl [Hat] <;> iassumption

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ mint B c) : sProp 𝕄)
    ⊢ |={Set.univ}=> bigSep Finset.univ (dealt B) :=
  ((bigSep_mono fun c _ => core_alloc B c).trans (bigSep_fupd _ _)).trans (BI.fupd_mono (regroup B))

/-! ## The credits -/

/-- What the other devices owe at a cell, in all. -/
def debt : Cx → ℕ
  | .inl _ => 7
  | .inr (false, _, _, _) => 0
  | .inr (true, _, o, _) => N o

/-- What one loop's turns owe, summed over the devices. -/
theorem due_all (c : Dev nD) (x : Cx) (y : Fin 7 → Cx) (n : ℕ) :
    ∑ d : Dev nD, due (fun i => (tallyAt (kcell (peer d i) (y i)) () n : CellTallies nD τ sig Unit)) turns (kcell c x) ()
      = ∑ i : Fin 7, if x = y i then n else 0 := by
  have e : ∀ d : Dev nD, due (fun i => (tallyAt (kcell (peer d i) (y i)) () n : CellTallies nD τ sig Unit)) turns (kcell c x) ()
      = ∑ i : Fin 7, if d = peer c i then (if x = y i then n else 0) else 0 := by
    intro d
    have t : ∀ i : Fin 7, (tallyAt (kcell (peer d i) (y i)) () n : CellTallies nD τ sig Unit) (kcell c x) ()
        = if d = peer c i then (if x = y i then n else 0) else 0 := by
      intro i
      rw [tallyAt_apply, ← ite_and]
      refine if_congr ?_ rfl rfl
      rw [kcell_eq_iff]
      constructor
      · rintro ⟨⟨h, h'⟩, -⟩; exact ⟨by rw [h, peer_peer], h'⟩
      · rintro ⟨h, h'⟩; exact ⟨⟨by rw [h, peer_peer], h'⟩, rfl⟩
    rw [Fin.sum_univ_seven]
    simp only [due, turns, List.map_cons, List.map_nil, List.sum_cons, List.sum_nil, Pi.add_apply, Finsupp.add_apply, t, add_assoc]
    rfl
  rw [Finset.sum_congr rfl fun d _ => e d, Finset.sum_comm]
  refine Finset.sum_congr rfl fun i _ => ?_
  rw [Finset.sum_ite_eq' Finset.univ (peer c i) fun _ => _, if_pos (Finset.mem_univ _)]

/-- Over all devices, a handshake's cell is owed seven units by that handshake, every other cell none. -/
theorem due_hand (c : Dev nD) (x : Cx) (e : Bool) : ∑ d : Dev nD, due (oweH d e) turns (kcell c x) () = if x = .inl e then 7 else 0 := by
  have h := due_all c x (fun _ => .inl e) 1
  unfold oweH
  rw [h]
  by_cases hx : x = .inl e
  · simp [hx]
  · simp [hx]
/-- Over all devices, a landing's cell is owed one transfer's credit by the transfers of its kind. -/
theorem due_recv (c : Dev nD) (x : Cx) (k : Kind') :
    ∑ d : Dev nD, due (oweR d k) turns (kcell c x) () = ∑ i : Fin 7, if x = recvX k i then N k.2 else 0 := due_all c x (fun i => recvX k i) (N k.2)

/-- What all devices together owe a cell at launch. -/
theorem owed_all (c : Dev nD) (x : Cx) : ∑ d : Dev nD, owed d (kcell c x) () = debt x := by
  unfold owed O0 O1 O2 O3 O4 O5 O6
  simp only [Pi.add_apply, Finsupp.add_apply, Finset.sum_add_distrib, due_hand, due_recv]
  rcases x with (_ | _) | ⟨(_ | _), (_ | _), (_ | o), i⟩
  · simp [debt]
  · simp [debt]
  · simp [debt]
  · simp [debt]
  · simp [debt]
  · simp [debt]
  · simp [debt]
  · fin_cases o <;> simp [debt]
  · simp [debt]
  · fin_cases o <;> simp [debt]

/-- The credit a cell starts with is what it is owed. -/
theorem launch_cell (c : Dev nD) (x : Cx) :
    tallyOn (kcell c x) (launchCredit (Pipeline.owing owed) 0 (kcell c x)) = (tallyAt (kcell c x) () (debt x) : CellTallies nD τ sig Unit) := by
  unfold tallyAt; refine congrArg _ (Finsupp.ext fun u => ?_); cases u
  rw [Pipeline.launchCredit_owing, Finsupp.single_eq_same, owed_all]

/-- Device `c`'s credits at launch. -/
theorem creds (c : Dev nD) : (Pipeline.launchCred owed c : sProp 𝕄) ⊢ bigSep Finset.univ fun x : Cx => cred (tallyAt (kcell c x) () (debt x)) := by
  classical
  unfold Pipeline.launchCred
  refine BIBase.Entails.trans (BI.bigSep_subset (Finset.subset_univ (Finset.univ.map ⟨csem, csem_inj⟩))) (BIBase.Entails.of_eq ?_)
  rw [bigSep_map]
  exact bigSep_congr fun x _ => congrArg cred (launch_cell c x)

/-- What a device is dealt, with its credits and the levels, is what its body starts from. -/
theorem start_of (c : Dev nD) :
    iprop(dealt B c ∗ (bigSep Finset.univ fun x : Cx => cred (tallyAt (kcell c x) () (debt x))) ∗ levAts L lv) ⊢ start B c := by
  unfold dealt posns payToks start hand posts
  rw [bigSep_cells, bigSep_cells]
  simp only [bigSep_sep']
  iintro ⟨⟨HK, ⟨⟨PH, PE⟩, PS, PR⟩, ⟨⟨TH, TE⟩, T⟩⟩, ⟨⟨⟨CH, CE⟩, -, CR⟩, Hlev⟩⟩
  isplitl [HK]; · iexact HK
  isplitl [PH TH CH]
  · isplitl [TH]; · iexact TH
    isplitl [PH]; · iexact PH
    iexact CH
  isplitl [PE TE CE]
  · isplitl [TE]; · iexact TE
    isplitl [PE]; · iexact PE
    iexact CE
  isplitr [Hlev]
  · isplitl [T]; · iexact T
    isplitl [PS]; · iexact PS
    isplitl [PR]; · iexact PR
    iexact CR
  iexact Hlev

end Cert.Mesh

end
-- ==== Proof.Launch.lean ====
/-
# The run of the whole program

The pipeline stages each device's seven blocks, runs the body once, and writes the result back: from the body's run and
what is dealt at launch, the run of all eight devices.
-/
module

public import proofs.«01_k».proof.Proof.Deal
public import proofs.«01_k».proof.Proof.Gen.KernelIdeal.Points
public import Idealize.ShloMosaic.Lib.Pipeline.CollectiveSegs

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- What the pipeline stages of each device's arguments. -/
def staged (c : Dev nD) : Blocks F where
  x := (win0_0.blk (0 : Fin 1)).view.read (Elt F) (m ((c : Thread nD τ).loc main_arg0))
  w0 := (win0_1.blk (0 : Fin 1)).view.read (Elt F) (m ((c : Thread nD τ).loc main_arg1))
  o0 := (win0_2.blk (0 : Fin 1)).view.read (Elt F) (m ((c : Thread nD τ).loc main_arg4))
  w1 := (win0_3.blk (0 : Fin 1)).view.read (Elt F) (m ((c : Thread nD τ).loc main_arg2))
  o1 := (win0_4.blk (0 : Fin 1)).view.read (Elt F) (m ((c : Thread nD τ).loc main_arg5))
  w2 := (win0_5.blk (0 : Fin 1)).view.read (Elt F) (m ((c : Thread nD τ).loc main_arg3))
  o2 := (win0_6.blk (0 : Fin 1)).view.read (Elt F) (m ((c : Thread nD τ).loc main_arg6))

/-! ## The pipeline's data -/

/-- The body runs once per device. -/
theorem cfg0_N : cfg0.N = 1 := by decide
/-- The only step. -/
def t₀ : Fin cfg0.N := ⟨0, by rw [cfg0_N]; decide⟩
/-- Every step is the only step. -/
theorem fin_N (t : Fin cfg0.N) : t = t₀ := by
  obtain ⟨t, ht⟩ := t; have := cfg0_N; exact Fin.ext (by simp only [t₀]; omega)

/-- Before the body: what it starts from, and the scratch buffers. -/
def Φ₀ (c : Dev nD) : sProp 𝕄 := iprop(start (staged m) c ∗ scr c)
/-- After the body: the scratch buffers, and every cell at zero. -/
def Φ₁ (c : Dev nD) : sProp 𝕄 := iprop(scr c ∗ zeros c)

/-- The pipeline's data on device `c`: the arguments' contents, what each window holds after the body, the body's assertions. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (staged m c).x
    | ⟨1, _⟩ => (staged m c).w0
    | ⟨2, _⟩ => (staged m c).o0
    | ⟨3, _⟩ => (staged m c).w1
    | ⟨4, _⟩ => (staged m c).o1
    | ⟨5, _⟩ => (staged m c).w2
    | ⟨6, _⟩ => (staged m c).o2
    | ⟨7, _⟩ => result (staged m) c
  Φ t := match t with
    | ⟨0, _⟩ => Φ₀ m c
    | ⟨_ + 1, _⟩ => Φ₁ c
  q _ := fullShare
  owed t := match t with
    | ⟨0, _⟩ => owed c
    | ⟨_ + 1, _⟩ => 0

/-! ## The body's obligation -/

/-- A buffer's points-to at some contents is the whole buffer owned at some contents. -/
theorem anyOf_whole (c : Dev nD) (b : Ref sig .tc) :
    (iprop(∃ f : Buf (Elt F) ((c : Thread nD τ).loc b), ((c : Thread nD τ).loc b) ↦{fullShare} f) : sProp 𝕄) = iprop(∃ X, owns (c : Thread nD τ) (Memref.whole b) fullShare X) := by
  have e : ∀ X : b.ty.Contents (Elt F), (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
    intro X; unfold owns; simp only [Memref.view_whole, View.read_whole, View.set_whole]
  have h1 : (iprop(∃ f : Buf (Elt F) ((c : Thread nD τ).loc b), ((c : Thread nD τ).loc b) ↦{fullShare} f) : sProp 𝕄) ⊢ iprop(∃ X, owns (c : Thread nD τ) (Memref.whole b) fullShare X) := by
    iintro ⟨%f, H⟩
    iexists f
    iapply (BIBase.Entails.of_eq (e f).symm)
    iexists f
    isplitr
    · ipureintro; rfl
    iexact H
  have h2 : (iprop(∃ X, owns (c : Thread nD τ) (Memref.whole b) fullShare X) : sProp 𝕄) ⊢ iprop(∃ f : Buf (Elt F) ((c : Thread nD τ).loc b), ((c : Thread nD τ).loc b) ↦{fullShare} f) := by
    iintro ⟨%X, H⟩
    ihave H := (BIBase.Entails.of_eq (e X)) $$ H
    icases H with ⟨%f, -, H⟩
    iexists f
    iexact H
  exact BI.Entails.antisymm h1 h2

/-- What the body is run from: its assertion, what it owes, and the eight windows. -/
def bodyPre (c : Dev nD) : sProp 𝕄 :=
  iprop(Φ₀ m c ∗ (dats m ρ 0 c).owesAt () t₀.castSucc
    ∗ (∃ d, ow c xM ((dats m ρ 0 c).before (0 : Fin 8) t₀ d))
    ∗ (∃ d, ow c w0M ((dats m ρ 0 c).before (1 : Fin 8) t₀ d))
    ∗ (∃ d, ow c o0M ((dats m ρ 0 c).before (2 : Fin 8) t₀ d))
    ∗ (∃ d, ow c w1M ((dats m ρ 0 c).before (3 : Fin 8) t₀ d))
    ∗ (∃ d, ow c o1M ((dats m ρ 0 c).before (4 : Fin 8) t₀ d))
    ∗ (∃ d, ow c w2M ((dats m ρ 0 c).before (5 : Fin 8) t₀ d))
    ∗ (∃ d, ow c o2M ((dats m ρ 0 c).before (6 : Fin 8) t₀ d))
    ∗ (∃ d, ow c outM ((dats m ρ 0 c).before (7 : Fin 8) t₀ d)))
/-- What the body leaves: its assertion, nothing owed, the arguments' windows as staged, the result's window written. -/
def bodyPost (c : Dev nD) : sProp 𝕄 :=
  iprop(Φ₁ c ∗ (dats m ρ 0 c).owesAt () t₀.succ ∗ ow c xM (staged m c).x ∗ ow c w0M (staged m c).w0 ∗ ow c o0M (staged m c).o0 ∗ ow c w1M (staged m c).w1 ∗ ow c o1M (staged m c).o1 ∗ ow c w2M (staged m c).w2 ∗ ow c o2M (staged m c).o2 ∗ ow c outM (result (staged m) c))

set_option maxRecDepth 100000 in
/-- The library's obligation for the body on device `c`. -/
theorem body_obligation (c : Dev nD) : BodyObligation (dats (F := F) m ρ 0 c) (defs₀ (F := F)) 𝒱₀ () Set.univ := fun t => by
  rw [fin_N t, bigSep_W0, bigSep_W0]
  show bodyPre m ρ c ⊢ wp frame (wpE (defs₀ (F := F)) 𝒱₀ c none) Set.univ (bodyAt0 (F := F) t₀) (fun _ => bodyPost m ρ c)
  show bodyPre m ρ c ⊢ wp frame (wpE (defs₀ (F := F)) 𝒱₀ c none) Set.univ (cc0_body xM (Memref.isWhole_whole _) w0M (Memref.isWhole_whole _) o0M (Memref.isWhole_whole _) w1M (Memref.isWhole_whole _)
      o1M (Memref.isWhole_whole _) w2M (Memref.isWhole_whole _) o2M (Memref.isWhole_whole _) outM (Memref.isWhole_whole _)
      partM (Memref.isWhole_whole _) hsM (Memref.isWhole_whole _) hfullM (Memref.isWhole_whole _) arecvM (Memref.isWhole_whole _)
      mbufM (Memref.isWhole_whole _) msM (Memref.isWhole_whole _) mrecvM (Memref.isWhole_whole _) mfullM (Memref.isWhole_whole _)
      cc0_scratch8 cc0_scratch9 cc0_scratch10 cc0_scratch11 cc0_scratch12 cc0_scratch13 cc0_scratch14 cc0_scratch15 cc0_scoped0) (fun _ => bodyPost m ρ c)
  rw [body_eq]
  refine BIBase.Entails.trans ?_ (BIBase.Entails.of_eq (wp_deviceId 𝒱₀ (c : Thread nD τ) none Set.univ).symm)
  show _ ⊢ Wp c (loopBody c) (fun _ => bodyPost m ρ c)
  have e0 : ∀ d, (dats m ρ 0 c).before (0 : Fin 8) t₀ d = (staged m c).x := fun d => by unfold Dat.before; rw [if_pos (fetch0_0 t₀)]; rfl
  have e1 : ∀ d, (dats m ρ 0 c).before (1 : Fin 8) t₀ d = (staged m c).w0 := fun d => by unfold Dat.before; rw [if_pos (fetch0_1 t₀)]; rfl
  have e2 : ∀ d, (dats m ρ 0 c).before (2 : Fin 8) t₀ d = (staged m c).o0 := fun d => by unfold Dat.before; rw [if_pos (fetch0_2 t₀)]; rfl
  have e3 : ∀ d, (dats m ρ 0 c).before (3 : Fin 8) t₀ d = (staged m c).w1 := fun d => by unfold Dat.before; rw [if_pos (fetch0_3 t₀)]; rfl
  have e4 : ∀ d, (dats m ρ 0 c).before (4 : Fin 8) t₀ d = (staged m c).o1 := fun d => by unfold Dat.before; rw [if_pos (fetch0_4 t₀)]; rfl
  have e5 : ∀ d, (dats m ρ 0 c).before (5 : Fin 8) t₀ d = (staged m c).w2 := fun d => by unfold Dat.before; rw [if_pos (fetch0_5 t₀)]; rfl
  have e6 : ∀ d, (dats m ρ 0 c).before (6 : Fin 8) t₀ d = (staged m c).o2 := fun d => by unfold Dat.before; rw [if_pos (fetch0_6 t₀)]; rfl
  refine BIBase.Entails.trans ?_ (loopBody_wp (staged m) c (fun _ => bodyPost m ρ c))
  unfold bodyPre Φ₀ ins
  simp only [e0, e1, e2, e3, e4, e5, e6]
  iintro ⟨⟨Hs, Hscr⟩, ⟨%W, -, HO⟩, ⟨%_, H0⟩, ⟨%_, H1⟩, ⟨%_, H2⟩, ⟨%_, H3⟩, ⟨%_, H4⟩, ⟨%_, H5⟩, ⟨%_, H6⟩, ⟨%d, H7⟩⟩
  isplitl [Hs]; · iexact Hs
  isplitl [HO]; · unfold OW; iexists W; iexact HO
  isplitl [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  isplitl [H7]; · unfold anyOf; iexists _; iexact H7
  isplitl [Hscr]; · iexact Hscr
  unfold bodyOut bodyPost ins Φ₁ OW
  iintro ⟨⟨%W', HO⟩, ⟨H0, H1, H2, H3, H4, H5, H6⟩, H7, Hscr, Hz⟩
  isplitl [Hscr Hz]
  · isplitl [Hscr] <;> iassumption
  isplitl [HO]
  · iexists W'
    isplitr
    · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

/-! ## The sides of the launch -/

/-- Every window is owned whole. -/
theorem share_eq (c : Dev nD) (w : Fin cfg0.W) : (dats m ρ 0 c).share w = fullShare := by unfold Dat.share; split <;> rfl

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ dealt (staged m) c)
      ⊢ |={Set.univ}=> iprop(start (staged m) c ∗ emp) := by
  iintro ⟨-, Hlev, Hcr, -, HG⟩
  ihave Hc := (creds (F := F) c) $$ Hcr
  imodintro
  isplitl
  · iapply (start_of (staged m) c)
    isplitl [HG]; · iexact HG
    isplitl [Hc] <;> iassumption
  · iempintro

/-- The kernel's scratch memory is its eight buffers. -/
theorem rest_scr (c : Dev nD) : (Pipeline.scopedRest cfg0.spec c : sProp 𝕄) = scr c := by
  rw [scopedRest0_eq]
  simp only [anyOf_whole]
  rfl

/-- The body's assertion at the start, from the launch. -/
theorem phi0_intro (c : Dev nD) :
    iprop(start (staged m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_scr]
  unfold Φ₀
  iintro ⟨Hs, -, Hr⟩
  isplitl [Hs] <;> iassumption

/-- The body's assertion at the end gives back the semaphores at zero and the scratch memory. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, rest_scr]
  unfold Φ₁
  iintro ⟨Hr, Hz⟩
  ihave Hz := (zeros_exit (F := F) c) $$ Hz
  icases Hz with ⟨Hu, Ho⟩
  isplitl [Hu]; · iexact Hu
  isplitl [Ho] <;> iassumption

/-- A semaphore of no cell is at level 0. -/
theorem lv_other (c : Dev nD) (s : SemLoc sig) (h : ∀ x : Cx, csem x ≠ s) : lv ((c : Thread nD τ), s) () ≤ 0 := by
  have e : dec s = none := by
    unfold dec Function.partialInv
    rw [dif_neg (fun ⟨x, hx⟩ => h x hx)]
  show (dec s).elim 0 lvOf ≤ 0
  rw [e]; exact Nat.le_refl 0

/-- The pipeline's own waits are below all that is owed. -/
theorem waits (c : Dev nD) : (levAts L lv : sProp 𝕄) ⊢ Pipeline.cellsWaits cfgs (dats m ρ) () 0 c :=
  Pipeline.cellsWaits_intro cfgs (dats m ρ) () 0 c fun w s t =>
    may_wait c _ 0 (lv_other c _ (by fin_cases w <;> fin_cases s <;> decide +kernel)) _ (by
      rcases t with ⟨_ | _, ht⟩
      · exact above_owed c
      · exact above_zero 0)

/-! ## The run -/

/-- A window's array after the run. -/
def finalA (c : Dev nD) (w : Fin cfg0.W) : Buf (Elt F) ((cfg0.win w).arr.view.loc (c : Thread nD τ)) := (dats m ρ 0 c).arrAt w cfg0.N

set_option maxRecDepth 100000 in
/-- On the mesh of eight devices, for any float values, from any memory with zero counters: every weakly fair execution
    of the program terminates, and ends with every window's array at `finalA` and every counter at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed) (howed₀ := fun _ => rfl) (howedN := fun _ => rfl)
    (L := L) (lv := lv) (hL := L_of_ne) (hwaits := waits m ρ)
    (G := mint (staged m)) (G' := dealt (staged m)) (u₀ := u₀)
    (hu₀ := by
      unfold u₀
      iintro Hu
      ihave H := (ownU_pair _ _) $$ Hu
      icases H with ⟨HP, HX⟩
      imod (fund_cells (staged m)) $$ HX with HG
      imodintro
      isplitl [HP] <;> iassumption)
    (hglob := glob (staged m))
    (hA := fun _ _ => rfl) (hpf := fun _ k => k.elim0)
    (X := start (staged m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in (c : Dev nD) (w : Fin cfg0.W) (h : (cfg0.win w).isOut = false) : finalA m ρ c w = m ((cfg0.win w).arr.view.loc (c : Thread nD τ)) :=
  (dats (F := F) m ρ 0 c).arrAt_in w h _

/-- The result's array after the run holds the body's result. -/
theorem finalA_out (c : Dev nD) : finalA m ρ c (7 : Fin 8) = result (staged m) c := by
  have h : ((cfg0.win (7 : Fin 8)).blk t₀).view.read (Elt F) (finalA m ρ c (7 : Fin 8)) = (dats (F := F) m ρ 0 c).flushed (7 : Fin 8) t₀ := by
    unfold finalA
    rw [show cfg0.N = (t₀ : Fin cfg0.N).val + 1 from rfl, (dats (F := F) m ρ 0 c).arrAt_succ (7 : Fin 8) t₀]
    rw [show (cfg0.win (7 : Fin 8)).flush t₀ = true from flush0_7 t₀, if_pos rfl]
    exact View.read_write_univ _ _
  have hz : (fun a => (win0_7.index t₀) a * main_v1.ty.shape.size a) = fun _ => 0 := funext fun a => by fin_cases a <;> decide
  have hr := fun f => Memref.read_access_unit_zero (Elt F) main_v1 hz (fun a => by fin_cases a <;> decide) f
  exact (hr _).symm.trans h

/-- Every window is its whole array: what is staged is what the arrays hold. -/
theorem staged_eq (c : Dev nD) : staged m c = ⟨m ((c : Thread nD τ).loc main_arg0), m ((c : Thread nD τ).loc main_arg1), m ((c : Thread nD τ).loc main_arg4), m ((c : Thread nD τ).loc main_arg2), m ((c : Thread nD τ).loc main_arg5), m ((c : Thread nD τ).loc main_arg3), m ((c : Thread nD τ).loc main_arg6)⟩ := by
  unfold staged
  congr 1
  · exact Memref.read_access_unit_zero (Elt F) main_arg0 (funext fun a => by fin_cases a <;> decide) (fun a => by fin_cases a <;> decide) _
  · exact Memref.read_access_unit_zero (Elt F) main_arg1 (funext fun a => by fin_cases a <;> decide) (fun a => by fin_cases a <;> decide) _
  · exact Memref.read_access_unit_zero (Elt F) main_arg4 (funext fun a => by fin_cases a <;> decide) (fun a => by fin_cases a <;> decide) _
  · exact Memref.read_access_unit_zero (Elt F) main_arg2 (funext fun a => by fin_cases a <;> decide) (fun a => by fin_cases a <;> decide) _
  · exact Memref.read_access_unit_zero (Elt F) main_arg5 (funext fun a => by fin_cases a <;> decide) (fun a => by fin_cases a <;> decide) _
  · exact Memref.read_access_unit_zero (Elt F) main_arg3 (funext fun a => by fin_cases a <;> decide) (fun a => by fin_cases a <;> decide) _
  · exact Memref.read_access_unit_zero (Elt F) main_arg6 (funext fun a => by fin_cases a <;> decide) (fun a => by fin_cases a <;> decide) _

end Cert.Mesh

end
-- ==== Proof.Frames.lean ====
/-
# The frames

What the run leaves, buffer by buffer, and the frames of the program, of its idealization and of the reference read off it.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

/-- The run, read at the result and the arguments: the result is the body's of what the arguments hold, the arguments
    end as they began, every counter ends at zero. -/
theorem run_read : θ_run defs (onTc (τ := τ) (main (F := F))) ⟨m, fun _ => 0, ρ⟩ (fun r =>
    (∀ c : Dev nD, r.2.mem ((c.tc : Thread nD τ).loc main_v1) = result (staged m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
    ∧ r.2.sem = fun _ => 0) :=
  (θ_run defs _ _).mono (fun _ h => ⟨fun c => ⟨(h.1 c (7 : Fin 8)).trans (finalA_out m ρ c),
      (h.1 c (0 : Fin 8)).trans (finalA_in m ρ c (0 : Fin 8) rfl),
      (h.1 c (1 : Fin 8)).trans (finalA_in m ρ c (1 : Fin 8) rfl),
      (h.1 c (3 : Fin 8)).trans (finalA_in m ρ c (3 : Fin 8) rfl),
      (h.1 c (5 : Fin 8)).trans (finalA_in m ρ c (5 : Fin 8) rfl),
      (h.1 c (2 : Fin 8)).trans (finalA_in m ρ c (2 : Fin 8) rfl),
      (h.1 c (4 : Fin 8)).trans (finalA_in m ρ c (4 : Fin 8) rfl),
      (h.1 c (6 : Fin 8)).trans (finalA_in m ρ c (6 : Fin 8) rfl)⟩, h.2⟩)
    (run_main m ρ)

/-- The idealized kernel's run ends, its arguments as they were and every semaphore at zero. -/
theorem frame_ideal : Cert.quiescent_KernelIdeal := fun m ρ _ =>
  (θ_run defs _ _).mono (fun _ h => ⟨fun c => (h.1 c).2, h.2⟩) (run_read (F := Ideal) m ρ)
/-- The same from inputs of which the precondition holds. -/
theorem frame_ideal_pre [Cert.Pre_finite_inputs_KernelIdeal.Facts] : Cert.quiescent_KernelIdeal_pre_finite_inputs_KernelIdeal := fun m ρ _ =>
  (θ_run defs _ _).mono (fun _ h => ⟨fun c => (h.1 c).2, h.2⟩) (run_read (F := Ideal) m ρ)
set_option maxRecDepth 100000 in
/-- The program's text is its idealization's: the bodies' table, -/
theorem bodies_eq : @Cert.Kernel.defs₀ Bits _ _ = @Cert.KernelIdeal.defs₀ Bits _ _ := by
  unfold Cert.Kernel.defs₀ Cert.KernelIdeal.defs₀
  refine congrArg (Defs.onTc (nD := 8) (τ := Cert.KernelIdeal.τ)) (funext fun l => funext fun x => ?_)
  match l, x with
  | 0, (t, s) => rfl
/-- and the table with the pipeline's. -/
theorem table_eq : @Cert.Kernel.defs Bits _ _ = @Cert.KernelIdeal.defs Bits _ _ :=
  congrArg (Pipeline.defs (Cert.KernelIdeal.pcfgs (F := Bits))) bodies_eq
/-- So the program's run, over bit patterns, is its idealization's. -/
theorem frame_kernel : Cert.quiescent_Kernel := fun m ρ _ => by
  rw [table_eq]
  exact (θ_run Cert.KernelIdeal.defs _ _).mono (fun _ h => ⟨fun c => (h.1 c).2, h.2⟩) (run_read (F := Bits) m ρ)
/-- The reference's run ends, its arguments as they were and every semaphore at zero. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The same from inputs of which the precondition holds. -/
theorem frame_ref_pre [Cert.Pre_finite_inputs_ReferenceIdeal.Facts] : Cert.quiescent_ReferenceIdeal_pre_finite_inputs_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mesh

end
-- ==== Proof.Value.lean ====
/-
# The value

The body's result over the extended reals, read as sums of products, and the same for the reference; the two agree when the
arguments, those of the last matrix aside, are finite.
-/
module

public import proofs.«01_k».proof.Proof.Geom
public import Idealize.ShloMosaic.Lib.Pointwise

@[expose] public section

noncomputable section

namespace Cert.Mesh

open Cert.KernelIdeal Cert.KernelIdeal.Gen
open Idealize.ShloMosaic
open Idealize.ShloMosaic.TcCoe
open scoped BigOperators

variable (B : Dev nD → Blocks Ideal)

/-! ## Sums over the devices -/

/-- A sum over the devices is device `c`'s term and the terms of its seven peers. -/
theorem sum_peer {M : Type*} [AddCommMonoid M] (c : Dev nD) (f : Dev nD → M) :
    ∑ d, f d = f c + ∑ i, f (peer c i) := by
  rw [univ_peer c, Finset.sum_insert (by
    simp only [Finset.mem_map, Finset.mem_univ, true_and, Function.Embedding.coeFn_mk, not_exists]
    exact fun i => peer_ne c i), Finset.sum_map]
  rfl

/-- The order the body adds in: its own term, then the seven that landed. -/
theorem sum_peer_chain (c : Dev nD) (f : Dev nD → EReal) :
    f c + f (peer c 0) + f (peer c 1) + f (peer c 2) + f (peer c 3) + f (peer c 4) + f (peer c 5) + f (peer c 6) = ∑ d, f d := by
  rw [sum_peer c f, Fin.sum_univ_seven]
  simp only [add_assoc]

/-! ## The pieces of the body -/

/-- A device's part of the first product, at an entry. -/
theorem part_apply (d : Dev nD) (r : Fin 256) (k : Fin 512) :
    part B d (ix2 r k) = ∑ j : Fin 256, (B d).x (ix2 r j) * (B d).w0 (ix2 j k) := by
  pointwise [part, k0_pay1]

/-- A device's part of the first weight product, at an entry. -/
theorem plane0_apply (d : Dev nD) (r k : Fin 512) :
    plane B d 0 (ix3 0 r k) = ∑ j : Fin 256, (B d).o0 (ix2 r j) * (B d).w1 (ix2 j k) := by
  pointwise [plane, k0_pay2]

/-- A device's part of the second weight product, at an entry. -/
theorem plane1_apply (d : Dev nD) (r k : Fin 512) :
    plane B d 1 (ix3 0 r k) = ∑ j : Fin 256, (B d).o1 (ix2 r j) * (B d).w2 (ix2 j k) := by
  pointwise [plane, k0_pay3]

/-- A matrix seen as one landing slot, read at the slot's only plane. -/
theorem lift32_apply (X : S32x512.Idx → Elt Ideal .bf16) (r : Fin 32) (k : Fin 512) : lift32 X (ix3 0 r k) = X (ix2 r k) := by
  have h : shapeCast S32x512 (lift32 X) shapeCasts_S1x32x512_S32x512 (ix2 r k) = X (ix2 r k) :=
    congrArg X (Equiv.symm_apply_apply _ _)
  pointwise at h
  exact h

/-- What a peer sends of the first product is the rows of the device it sends to. -/
theorem rowsA_back (d : Dev nD) (i : Fin 7) (j : S32x512.Idx) : (rowsA (peer (peer d i) i)).emb j = (rowsA d).emb j := by
  have key : ∀ t, t = d → (rowsA t).emb j = (rowsA d).emb j := by rintro _ rfl; rfl
  exact key _ (peer_peer d i)
/-- What a peer sends of plane `p` is the rows of the device it sends to. -/
theorem rowsM_back (d : Dev nD) (p : Fin 2) (i : Fin 7) (j : S1x64x512.Idx) : (rowsM p (peer (peer d i) i)).emb j = (rowsM p d).emb j := by
  have key : ∀ t, t = d → (rowsM p t).emb j = (rowsM p d).emb j := by rintro _ rfl; rfl
  exact key _ (peer_peer d i)

/-- Device `d`'s rows of the first activation: the sum over the devices, clamped below at zero. -/
theorem hs_apply (d : Dev nD) (r : Fin 32) (k : Fin 512) :
    hs B d (ix2 r k) = max (∑ e, part B e ((rowsA d).emb (ix2 r k))) 0 := by
  rw [← sum_peer_chain d]
  pointwise [hs, accA, gA, vA, k0_pay9, k0_pay8, k0_pay7, k0_pay6, k0_pay5, k0_pay4]
  simp only [lift32_apply, rowsA_back]

/-- Device `d`'s rows of plane 0: the sum over the devices. -/
theorem ms0_apply (d : Dev nD) (r : Fin 64) (k : Fin 512) :
    ms B d 0 (ix3 0 r k) = ∑ e, planes B e ((rowsM 0 d).emb (ix3 0 r k)) := by
  rw [← sum_peer_chain d]
  pointwise [ms, acc0, gM, vM, k0_pay17, k0_pay16, k0_pay15, k0_pay14, k0_pay13, k0_pay12, k0_pay11, lift64_drop]
  simp only [rowsM_back]

/-- Device `d`'s rows of plane 1: the sum over the devices. -/
theorem ms1_apply (d : Dev nD) (r : Fin 64) (k : Fin 512) :
    ms B d 1 (ix3 0 r k) = ∑ e, planes B e ((rowsM 1 d).emb (ix3 0 r k)) := by
  rw [← sum_peer_chain d]
  pointwise [ms, acc1, gM, vM, k0_pay25, k0_pay24, k0_pay23, k0_pay22, k0_pay21, k0_pay20, k0_pay19, lift64_drop]
  simp only [rowsM_back]

/-- Device `d`'s rows of either plane: the sum over the devices. -/
theorem ms_apply (d : Dev nD) (p : Fin 2) (r : Fin 64) (k : Fin 512) :
    ms B d p (ix3 0 r k) = ∑ e, planes B e ((rowsM p d).emb (ix3 0 r k)) := by
  fin_cases p
  · exact ms0_apply B d r k
  · exact ms1_apply B d r k

/-- The gathered activation. -/
theorem hAll_apply (r : Fin 256) (k : Fin 512) : hAll B (ix2 r k) = max (∑ e, part B e (ix2 r k)) 0 := by
  have hr := r.isLt
  have e : (ix2 r k : S256x512.Idx) = (rowsA ⟨r.val / 32, by show _ < 8; omega⟩).emb (ix2 ⟨r.val % 32, Nat.mod_lt _ (by decide)⟩ k) := by
    funext a
    apply Fin.ext
    match a with
    | ⟨0, _⟩ => show r.val = 32 * (r.val / 32) + 1 * (r.val % 32); omega
    | ⟨1, _⟩ => show k.val = 0 + 1 * k.val; omega
  rw [e]
  exact (congrFun (hAll_rows B _) _).trans (hs_apply B _ _ _)

/-- The gathered plane `p`. -/
theorem mPlane_apply (p : Fin 2) (r k : Fin 512) : mPlane B p (ix3 0 r k) = ∑ e, plane B e p (ix3 0 r k) := by
  have hr := r.isLt
  have e : (planeM p).emb (ix3 0 r k) = (rowsM p ⟨r.val / 64, by show _ < 8; omega⟩).emb (ix3 0 ⟨r.val % 64, Nat.mod_lt _ (by decide)⟩ k) := by
    funext a
    apply Fin.ext
    match a with
    | ⟨0, _⟩ => rfl
    | ⟨1, _⟩ => show 0 + 1 * r.val = 64 * (r.val / 64) + 1 * (r.val % 64); omega
    | ⟨2, _⟩ => rfl
  have h : mAll B ((planeM p).emb (ix3 0 r k)) = ∑ e, planes B e ((planeM p).emb (ix3 0 r k)) := by
    rw [e]
    exact (congrFun (mAll_rows B p _) _).trans (ms_apply B _ _ _ _)
  exact h.trans (Finset.sum_congr rfl fun d _ => congrFun (planes_plane B d p) _)

/-- Device `d`'s block of the result, from the gathered activation and planes. -/
theorem result_apply (d : Dev nD) (r j : Fin 256) :
    result B d (ix2 r j) = ∑ k : Fin 512, max (∑ q : Fin 512, max (∑ p : Fin 512, hAll B (ix2 r p) * mPlane B 0 (ix3 0 p q)) 0 * mPlane B 1 (ix3 0 q k)) 0
      * (B d).o2 (ix2 k j) := by
  pointwise [result, k0_pay27, k0_pay28]

/-! ## Extended reals that are real -/

/-- A finite sum of real numbers, read over the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real number clamped below at zero, read over the extended reals. -/
theorem coe_max (a : ℝ) : max (a : EReal) 0 = ((max a 0 : ℝ) : EReal) := by
  rw [← EReal.coe_zero]; exact (Monotone.map_max EReal.coe_strictMono.monotone).symm

/-- A product of two real matrices, read over the extended reals. -/
theorem coe_mul_sum {l m n : ℕ} (P : Matrix (Fin l) (Fin m) ℝ) (Q : Matrix (Fin m) (Fin n) ℝ) (i : Fin l) (j : Fin n) :
    ∑ k, ((P i k : ℝ) : EReal) * ((Q k j : ℝ) : EReal) = (((P * Q) i j : ℝ) : EReal) := by
  simp only [← EReal.coe_mul, coe_sum, Matrix.mul_apply]

/-- A contraction of 2048 positions is the sum over the devices of the contractions of their 256 each. -/
theorem sum_blocks {M : Type*} [AddCommMonoid M] (f : Fin 2048 → M) :
    ∑ e : Dev nD, ∑ j : Fin 256, f ⟨256 * e.val + j.val, by have h : e.val < 8 := e.isLt; have := j.isLt; omega⟩ = ∑ q, f q := by
  rw [← Equiv.sum_comp (finProdFinEquiv (m := 8) (n := 256)) f, Fintype.sum_prod_type]
  refine Finset.sum_congr rfl fun e _ => Finset.sum_congr rfl fun j _ => congrArg f (Fin.ext ?_)
  show 256 * e.val + j.val = j.val + 256 * e.val
  omega

/-- A matrix clamped below at zero. -/
def relu {m n : ℕ} (P : Matrix (Fin m) (Fin n) ℝ) : Matrix (Fin m) (Fin n) ℝ := fun i j => max (P i j) 0

/-- Position `j` of device `e`'s 256 of 2048. -/
def at8 (e : Dev nD) (j : Fin 256) : Fin 2048 := ⟨256 * e.val + j.val, by have h : e.val < 8 := e.isLt; have := j.isLt; omega⟩

/-- Products over each device's block of the contracted axis, summed over the devices, are the product of the matrices. -/
theorem coe_blocks {m n : ℕ} (P : Matrix (Fin m) (Fin 2048) ℝ) (Q : Matrix (Fin 2048) (Fin n) ℝ) (i : Fin m) (k : Fin n) :
    ∑ e : Dev nD, ∑ j : Fin 256, ((P i (at8 e j) : ℝ) : EReal) * ((Q (at8 e j) k : ℝ) : EReal) = (((P * Q) i k : ℝ) : EReal) := by
  rw [← coe_mul_sum P Q i k]
  exact sum_blocks fun q => ((P i q : ℝ) : EReal) * ((Q q k : ℝ) : EReal)

/-- An entry of a matrix clamped below at zero, read over the extended reals. -/
theorem coe_relu {m n : ℕ} (P : Matrix (Fin m) (Fin n) ℝ) (i : Fin m) (j : Fin n) : max ((P i j : ℝ) : EReal) 0 = ((relu P i j : ℝ) : EReal) :=
  coe_max _

/-! ## The body's result -/

/-- The body's result when the blocks, those of the last matrix aside, hold real numbers: the weights multiplied first. -/
theorem result_real {x : Matrix (Fin 256) (Fin 2048) ℝ} {w0 w1 w2 : Matrix (Fin 2048) (Fin 512) ℝ} {o0 o1 : Matrix (Fin 512) (Fin 2048) ℝ}
    (hx : ∀ e r j, (B e).x (ix2 r j) = ((x r (at8 e j) : ℝ) : EReal))
    (hw0 : ∀ e j k, (B e).w0 (ix2 j k) = ((w0 (at8 e j) k : ℝ) : EReal))
    (hw1 : ∀ e j k, (B e).w1 (ix2 j k) = ((w1 (at8 e j) k : ℝ) : EReal))
    (hw2 : ∀ e j k, (B e).w2 (ix2 j k) = ((w2 (at8 e j) k : ℝ) : EReal))
    (ho0 : ∀ e r j, (B e).o0 (ix2 r j) = ((o0 r (at8 e j) : ℝ) : EReal))
    (ho1 : ∀ e r j, (B e).o1 (ix2 r j) = ((o1 r (at8 e j) : ℝ) : EReal))
    (d : Dev nD) (r j : Fin 256) :
    result B d (ix2 r j) = ∑ k : Fin 512, ((relu (relu (relu (x * w0) * (o0 * w1)) * (o1 * w2)) r k : ℝ) : EReal) * (B d).o2 (ix2 k j) := by
  have h0 (r : Fin 256) (k : Fin 512) : hAll B (ix2 r k) = ((relu (x * w0) r k : ℝ) : EReal) := by
    rw [hAll_apply]
    simp only [part_apply, hx, hw0, coe_blocks, coe_relu]
  have h1 (r k : Fin 512) : mPlane B 0 (ix3 0 r k) = (((o0 * w1) r k : ℝ) : EReal) := by
    rw [mPlane_apply]
    simp only [plane0_apply, ho0, hw1, coe_blocks]
  have h2 (r k : Fin 512) : mPlane B 1 (ix3 0 r k) = (((o1 * w2) r k : ℝ) : EReal) := by
    rw [mPlane_apply]
    simp only [plane1_apply, ho1, hw2, coe_blocks]
  rw [result_apply]
  simp only [h0, h1, h2, coe_mul_sum, coe_relu]

end Cert.Mesh

end
-- ==== Proof.Algebraic.lean ====
/-
# The kernel against the reference

The reference's term read as sums of products over the extended reals, the precondition read element by element, and the
claim: where the arguments, those of the last matrix aside, are finite, every device's result is its block of columns of the
reference's result.
-/
module

public import proofs.«01_k».proof.Proof.Frames
public import proofs.«01_k».proof.Proof.Value
public import proofs.«01_k».proof.Proof.Gen.Pre_finite_inputs_KernelIdeal
public import Idealize.ShloMosaic.Lib.ReduceAll
public import Idealize.ShloMosaic.Lib.IdealHost

@[expose] public section

noncomputable section

namespace Cert.RefValue

open Cert.ReferenceIdeal Cert.ReferenceIdeal.Gen
open Idealize.ShloMosaic
open Cert.ReferenceIdeal.Facts
open Cert.Mesh (relu coe_mul_sum coe_relu)
open scoped BigOperators

/-- One layer's product into the hidden axis, clamped below at zero. -/
def hidden (X : FVec Ideal S256x2048 .bf16) (W : FVec Ideal S2048x512 .bf16) : FVec Ideal S256x512 .bf16 :=
  maximumf (truncf .bf16 (Host.dotGeneral dot_S256x2048_S2048x512_S256x512_1_0_0_1_n_n none (extf .f32 X bitsLt_bf16_f32)
    (extf .f32 W bitsLt_bf16_f32)) bitsLt_bf16_f32) (broadcastInDim S256x512 ![] bcast_S_S256x512 (constant S_ .bf16 0x0000#16))
/-- One layer's product out of the hidden axis. -/
def outer (H : FVec Ideal S256x512 .bf16) (O : FVec Ideal S512x2048 .bf16) : FVec Ideal S256x2048 .f32 :=
  Host.dotGeneral dot_S256x512_S512x2048_S256x2048_1_0_0_1_n_n none (extf .f32 H bitsLt_bf16_f32) (extf .f32 O bitsLt_bf16_f32)

/-- The reference's result. -/
def term (X : FVec Ideal S256x2048 .bf16) (W0 W1 W2 : FVec Ideal S2048x512 .bf16) (O0 O1 O2 : FVec Ideal S512x2048 .bf16) :
    FVec Ideal S256x2048 .f32 :=
  outer (hidden (truncf .bf16 (outer (hidden (truncf .bf16 (outer (hidden X W0) O0) bitsLt_bf16_f32) W1) O1) bitsLt_bf16_f32) W2) O2

/-- One layer's hidden activation at an entry: the row times the column, clamped below at zero. -/
theorem hidden_apply (X : FVec Ideal S256x2048 .bf16) (W : FVec Ideal S2048x512 .bf16) (r : Fin 256) (k : Fin 512) :
    hidden X W (ix2 r k) = max (∑ q : Fin 2048, X (ix2 r q) * W (ix2 q k)) 0 := by
  pointwise [hidden]
/-- The product out of the hidden axis at an entry. -/
theorem outer_apply (H : FVec Ideal S256x512 .bf16) (O : FVec Ideal S512x2048 .bf16) (r : Fin 256) (q : Fin 2048) :
    outer H O (ix2 r q) = ∑ k : Fin 512, H (ix2 r k) * O (ix2 k q) := by
  pointwise [outer]

/-- The reference's result when its arguments, the last matrix aside, hold real numbers. -/
theorem term_real {x : Matrix (Fin 256) (Fin 2048) ℝ} {w0 w1 w2 : Matrix (Fin 2048) (Fin 512) ℝ} {o0 o1 : Matrix (Fin 512) (Fin 2048) ℝ}
    {X : FVec Ideal S256x2048 .bf16} {W0 W1 W2 : FVec Ideal S2048x512 .bf16} {O0 O1 : FVec Ideal S512x2048 .bf16}
    (O2 : FVec Ideal S512x2048 .bf16)
    (hX : ∀ r q, X (ix2 r q) = ((x r q : ℝ) : EReal))
    (hW0 : ∀ q k, W0 (ix2 q k) = ((w0 q k : ℝ) : EReal)) (hW1 : ∀ q k, W1 (ix2 q k) = ((w1 q k : ℝ) : EReal))
    (hW2 : ∀ q k, W2 (ix2 q k) = ((w2 q k : ℝ) : EReal))
    (hO0 : ∀ k q, O0 (ix2 k q) = ((o0 k q : ℝ) : EReal)) (hO1 : ∀ k q, O1 (ix2 k q) = ((o1 k q : ℝ) : EReal))
    (r : Fin 256) (n : Fin 2048) :
    term X W0 W1 W2 O0 O1 O2 (ix2 r n)
      = ∑ k : Fin 512, ((relu (relu (relu (x * w0) * (o0 * w1)) * (o1 * w2)) r k : ℝ) : EReal) * O2 (ix2 k n) := by
  have t (A : FVec Ideal S256x2048 .f32) (i : S256x2048.Idx) : truncf .bf16 A bitsLt_bf16_f32 i = A i := rfl
  rw [← Matrix.mul_assoc, ← Matrix.mul_assoc]
  simp only [term, outer_apply, hidden_apply, t, hX, hW0, hW1, hW2, hO0, hO1, coe_mul_sum, coe_relu]

end Cert.RefValue

namespace Cert.Mesh

open Cert.KernelIdeal Cert.KernelIdeal.Gen
open Idealize.ShloMosaic
open Idealize.ShloMosaic.TcCoe
open scoped BigOperators

/-! ## The precondition, element by element -/

/-- An extended real whose absolute value is below infinity is a real number. -/
theorem real_of_olt {a : EReal} (h : Ideal.cmp .olt (max a (-a)) (Ideal.ofBits .f32 0x7F800000#32) = 1#1) : ∃ r : ℝ, a = (r : EReal) := by
  have e : Ideal.ofBits .f32 0x7F800000#32 = (⊤ : EReal) := by simp [Ideal.ofBits, Ideal.ieee]
  rw [e] at h
  induction a with
  | bot => simp [Ideal.cmp] at h
  | top => simp [Ideal.cmp] at h
  | coe r => exact ⟨r, rfl⟩

/-- A conjunction of one-bit arrays that is one has both conjuncts one. -/
theorem andi_one {s : Shape} {x y : IVec s 1} (h : andi x y = fun _ => 1#1) : (x = fun _ => 1#1) ∧ (y = fun _ => 1#1) :=
  ⟨funext fun j => (IntOp.andi_eq_one.1 (congrFun h j)).1, funext fun j => (IntOp.andi_eq_one.1 (congrFun h j)).2⟩

/-- An array whose absolute values are all below infinity holds real numbers. -/
theorem real_of_all {s : Shape} {axes : List (Fin s.rank)} (A : FVec Ideal s .bf16) (hb : FTy.bits .bf16 < FTy.bits .f32)
    (hc : Cert.Pre_finite_inputs_KernelIdeal.S_.BroadcastsInDim s ![])
    (hr : s.ReducesTo axes Cert.Pre_finite_inputs_KernelIdeal.S_) (hu : 0 < Cert.Pre_finite_inputs_KernelIdeal.S_.numel)
    (h : Host.reduce IntOp.andi (cmpf .olt (Host.absf (extf .f32 A hb))
        (broadcastInDim s ![] hc (constant (F := Ideal) Cert.Pre_finite_inputs_KernelIdeal.S_ .f32 0x7F800000#32)))
      (constantI Cert.Pre_finite_inputs_KernelIdeal.S_ 1 1#1) hr hu = fun _ => 1#1) (i : s.Idx) : ∃ r : ℝ, A i = (r : EReal) := by
  haveI : Subsingleton Cert.Pre_finite_inputs_KernelIdeal.S_.Idx := ⟨fun a b => funext fun d => d.elim0⟩
  exact real_of_olt (Host.reduce_andi_all _ _ hr hu (fun d => d.elim0) (congrFun h _) i)

/-- The precondition, read: a device's blocks hold real numbers, that of the last matrix aside. -/
theorem real_of_pre [Cert.Pre_finite_inputs_KernelIdeal.Facts] {A0 : FVec Ideal S256x256 .bf16} {A1 A2 A3 : FVec Ideal S256x512 .bf16}
    {A4 A5 A6 : FVec Ideal S512x256 .bf16} (h : Cert.Pre_finite_inputs_KernelIdeal.fn (F := Ideal) A0 A1 A2 A3 A4 A5 A6 = fun _ => 1#1) :
    (∀ i, ∃ r : ℝ, A0 i = (r : EReal)) ∧ (∀ i, ∃ r : ℝ, A1 i = (r : EReal)) ∧ (∀ i, ∃ r : ℝ, A2 i = (r : EReal))
      ∧ (∀ i, ∃ r : ℝ, A3 i = (r : EReal)) ∧ (∀ i, ∃ r : ℝ, A4 i = (r : EReal)) ∧ (∀ i, ∃ r : ℝ, A5 i = (r : EReal)) := by
  obtain ⟨h, h5⟩ := andi_one h
  obtain ⟨h, h4⟩ := andi_one h
  obtain ⟨h, h3⟩ := andi_one h
  obtain ⟨h, h2⟩ := andi_one h
  obtain ⟨h0, h1⟩ := andi_one h
  exact ⟨real_of_all A0 _ _ _ _ h0, real_of_all A1 _ _ _ _ h1, real_of_all A2 _ _ _ _ h2, real_of_all A3 _ _ _ _ h3,
    real_of_all A4 _ _ _ _ h4, real_of_all A5 _ _ _ _ h5⟩

/-! ## Blocks of the whole arrays -/

/-- Device `c`'s block of an array cut along its columns. -/
theorem block_cols {m : ℕ} {α : Type} (v : (⟨2, ![m, 2048]⟩ : Shape).Idx → α) (h : Layout.Tiles ⟨2, ![m, 256]⟩ ⟨2, ![m, 2048]⟩ 1 8)
    (c : Dev nD) (r : Fin m) (j : Fin 256) :
    Layout.block ⟨2, ![m, 256]⟩ ⟨2, ![m, 2048]⟩ 1 8 c v h (ix2 r j) = v (ix2 r (at8 c j)) := by
  rw [Layout.block_apply]
  refine congrArg v (funext fun a => Fin.ext ?_)
  match a with
  | ⟨0, _⟩ => rfl
  | ⟨1, _⟩ => show c.val * 256 + j.val = 256 * c.val + j.val; omega
/-- Device `c`'s block of an array cut along its rows. -/
theorem block_rows {n : ℕ} {α : Type} (v : (⟨2, ![2048, n]⟩ : Shape).Idx → α) (h : Layout.Tiles ⟨2, ![256, n]⟩ ⟨2, ![2048, n]⟩ 0 8)
    (c : Dev nD) (j : Fin 256) (k : Fin n) :
    Layout.block ⟨2, ![256, n]⟩ ⟨2, ![2048, n]⟩ 0 8 c v h (ix2 j k) = v (ix2 (at8 c j) k) := by
  rw [Layout.block_apply]
  refine congrArg v (funext fun a => Fin.ext ?_)
  match a with
  | ⟨0, _⟩ => show c.val * 256 + j.val = 256 * c.val + j.val; omega
  | ⟨1, _⟩ => rfl

/-- Every one of the 2048 positions is some device's. -/
theorem exists_at8 (q : Fin 2048) : ∃ (e : Dev nD) (j : Fin 256), q = at8 e j :=
  ⟨⟨q.val / 256, by have := q.isLt; show _ < 8; omega⟩, ⟨q.val % 256, Nat.mod_lt _ (by decide)⟩,
    Fin.ext (show q.val = 256 * (q.val / 256) + q.val % 256 by omega)⟩

/-- An array whose blocks of columns all hold real numbers is a real matrix. -/
theorem real_cols {m : ℕ} (v : (⟨2, ![m, 2048]⟩ : Shape).Idx → EReal) (h : Layout.Tiles ⟨2, ![m, 256]⟩ ⟨2, ![m, 2048]⟩ 1 8)
    (hv : ∀ (c : Dev nD) i, ∃ r : ℝ, Layout.block ⟨2, ![m, 256]⟩ ⟨2, ![m, 2048]⟩ 1 8 c v h i = (r : EReal)) :
    ∃ A : Matrix (Fin m) (Fin 2048) ℝ, ∀ r q, v (ix2 r q) = ((A r q : ℝ) : EReal) := by
  have e (r : Fin m) (q : Fin 2048) : ∃ t : ℝ, v (ix2 r q) = (t : EReal) := by
    obtain ⟨c, j, rfl⟩ := exists_at8 q
    obtain ⟨t, ht⟩ := hv c (ix2 r j)
    exact ⟨t, (block_cols v h c r j).symm.trans ht⟩
  choose A hA using e
  exact ⟨A, hA⟩
/-- An array whose blocks of rows all hold real numbers is a real matrix. -/
theorem real_rows {n : ℕ} (v : (⟨2, ![2048, n]⟩ : Shape).Idx → EReal) (h : Layout.Tiles ⟨2, ![256, n]⟩ ⟨2, ![2048, n]⟩ 0 8)
    (hv : ∀ (c : Dev nD) i, ∃ r : ℝ, Layout.block ⟨2, ![256, n]⟩ ⟨2, ![2048, n]⟩ 0 8 c v h i = (r : EReal)) :
    ∃ A : Matrix (Fin 2048) (Fin n) ℝ, ∀ q k, v (ix2 q k) = ((A q k : ℝ) : EReal) := by
  have e (q : Fin 2048) (k : Fin n) : ∃ t : ℝ, v (ix2 q k) = (t : EReal) := by
    obtain ⟨c, j, rfl⟩ := exists_at8 q
    obtain ⟨t, ht⟩ := hv c (ix2 j k)
    exact ⟨t, (block_rows v h c j k).symm.trans ht⟩
  choose A hA using e
  exact ⟨A, hA⟩

/-! ## The claim -/

/-- Every device's result is its block of columns of the reference's result, where the arguments that the kernel multiplies
    before their turn are finite. -/
theorem algebraic [Cert.Pre_finite_inputs_KernelIdeal.Facts] : Cert.algebraic_KernelIdeal_ReferenceIdeal_pre_finite_inputs_KernelIdeal := by
  intro m g m' g' hpre hblk
  have fin := fun c => real_of_pre (hpre c)
  obtain ⟨x, hx⟩ := real_cols (m := 256) (m' (((0 : Dev Cert.ReferenceIdeal.nD).tc : Thread Cert.ReferenceIdeal.nD Cert.ReferenceIdeal.τ).loc Cert.ReferenceIdeal.main_arg0)) (by decide)
    fun c i => by rw [← (hblk c).1]; exact (fin c).1 i
  obtain ⟨w0, hw0⟩ := real_rows (n := 512) (m' (((0 : Dev Cert.ReferenceIdeal.nD).tc : Thread Cert.ReferenceIdeal.nD Cert.ReferenceIdeal.τ).loc Cert.ReferenceIdeal.main_arg1)) (by decide)
    fun c i => by rw [← (hblk c).2.1]; exact (fin c).2.1 i
  obtain ⟨w1, hw1⟩ := real_rows (n := 512) (m' (((0 : Dev Cert.ReferenceIdeal.nD).tc : Thread Cert.ReferenceIdeal.nD Cert.ReferenceIdeal.τ).loc Cert.ReferenceIdeal.main_arg2)) (by decide)
    fun c i => by rw [← (hblk c).2.2.1]; exact (fin c).2.2.1 i
  obtain ⟨w2, hw2⟩ := real_rows (n := 512) (m' (((0 : Dev Cert.ReferenceIdeal.nD).tc : Thread Cert.ReferenceIdeal.nD Cert.ReferenceIdeal.τ).loc Cert.ReferenceIdeal.main_arg3)) (by decide)
    fun c i => by rw [← (hblk c).2.2.2.1]; exact (fin c).2.2.2.1 i
  obtain ⟨o0, ho0⟩ := real_cols (m := 512) (m' (((0 : Dev Cert.ReferenceIdeal.nD).tc : Thread Cert.ReferenceIdeal.nD Cert.ReferenceIdeal.τ).loc Cert.ReferenceIdeal.main_arg4)) (by decide)
    fun c i => by rw [← (hblk c).2.2.2.2.1]; exact (fin c).2.2.2.2.1 i
  obtain ⟨o1, ho1⟩ := real_cols (m := 512) (m' (((0 : Dev Cert.ReferenceIdeal.nD).tc : Thread Cert.ReferenceIdeal.nD Cert.ReferenceIdeal.τ).loc Cert.ReferenceIdeal.main_arg5)) (by decide)
    fun c i => by rw [← (hblk c).2.2.2.2.2.1]; exact (fin c).2.2.2.2.2 i
  refine ⟨_, (θ_run defs _ _).mono (fun _ h c => ⟨(h.1 c).1.trans ?_, (h.1 c).2⟩) (run_read (F := Ideal) m g),
    (θ_run Cert.ReferenceIdeal.defs _ _).mono (fun _ h => h 0) (Cert.ReferenceIdeal.Value.run (F := Ideal) m' g')⟩
  funext i
  obtain ⟨r, j, rfl⟩ : ∃ (r j : Fin 256), i = ix2 r j := ⟨i 0, i 1, eq_ix2 i⟩
  refine (result_real (staged m) (x := x) (w0 := w0) (w1 := w1) (w2 := w2) (o0 := o0) (o1 := o1) ?_ ?_ ?_ ?_ ?_ ?_ c r j).trans ?_
  · intro e r j
    rw [staged_eq]
    exact ((congrFun (hblk e).1 _).trans (block_cols _ _ e r j)).trans (hx _ _)
  · intro e j k
    rw [staged_eq]
    exact ((congrFun (hblk e).2.1 _).trans (block_rows _ _ e j k)).trans (hw0 _ _)
  · intro e j k
    rw [staged_eq]
    exact ((congrFun (hblk e).2.2.1 _).trans (block_rows _ _ e j k)).trans (hw1 _ _)
  · intro e j k
    rw [staged_eq]
    exact ((congrFun (hblk e).2.2.2.1 _).trans (block_rows _ _ e j k)).trans (hw2 _ _)
  · intro e r j
    rw [staged_eq]
    exact ((congrFun (hblk e).2.2.2.2.1 _).trans (block_cols _ _ e r j)).trans (ho0 _ _)
  · intro e r j
    rw [staged_eq]
    exact ((congrFun (hblk e).2.2.2.2.2.1 _).trans (block_cols _ _ e r j)).trans (ho1 _ _)
  · refine Eq.trans ?_ (block_cols _ _ c r j).symm
    refine Eq.trans ?_ (Cert.RefValue.term_real _ hx hw0 hw1 hw2 ho0 ho1 r (at8 c j)).symm
    refine Finset.sum_congr rfl fun k _ => congrArg (_ * ·) ?_
    rw [staged_eq]
    exact (congrFun (hblk c).2.2.2.2.2.2 _).trans (block_cols _ _ c k j)

end Cert.Mesh

end
-- ==== Proof.lean ====
/-
# The certificate

The claims of `Cert.Claim`, each proved in a module of its own under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs_KernelIdeal
public import proofs.«01_k».proof.Proof.Gen.Pre_finite_inputs_ReferenceIdeal
public import proofs.«01_k».proof.Proof.Algebraic

@[expose] public section

noncomputable section

namespace Cert.Proof

/-- The frames of the program, of its idealization and of the reference, with and without the precondition; the idealization
    replaces nothing; and the idealized program's result is the idealized reference's. -/
theorem claim : Cert.Claim :=
  ⟨Cert.Kernel.Gen.facts, Cert.KernelIdeal.Gen.facts, Cert.ReferenceIdeal.Gen.facts,
    Cert.Pre_finite_inputs_KernelIdeal.Gen.facts, Cert.Pre_finite_inputs_ReferenceIdeal.Gen.facts,
    Cert.Mesh.frame_kernel, Cert.Mesh.frame_ideal,
    @Cert.Mesh.frame_ideal_pre Cert.Pre_finite_inputs_KernelIdeal.Gen.facts, Cert.Mesh.frame_ref,
    @Cert.Mesh.frame_ref_pre Cert.Pre_finite_inputs_ReferenceIdeal.Gen.facts, trivial,
    @Cert.Mesh.algebraic Cert.Pre_finite_inputs_KernelIdeal.Gen.facts⟩

end Cert.Proof

end
